-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "c2_exact" .f32 0xC9301C38#32 ((-((Real.log 2)⁻¹ * 500000) : ℝ) : EReal)
  ∧ IdealRules.named_const.Statement Cert.KernelIdeal.κ "c2_soft" .f32 0xC29044FE#32 ((-((Real.log 2)⁻¹ * 50) : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S128x30 : Shape := ⟨2, ![128, 30]⟩
abbrev S128x200 : Shape := ⟨2, ![128, 200]⟩
abbrev S50000x300 : Shape := ⟨2, ![50000, 300]⟩
abbrev S128x300x1 : Shape := ⟨3, ![128, 300, 1]⟩
abbrev S128x300x2 : Shape := ⟨3, ![128, 300, 2]⟩
abbrev S128x300x3 : Shape := ⟨3, ![128, 300, 3]⟩
abbrev S128 : Shape := ⟨1, ![128]⟩
abbrev S1x99 : Shape := ⟨2, ![1, 99]⟩
abbrev S_ : Shape := ⟨0, ![]⟩

class Facts : Prop where
  bcast_S_S128x30 : S_.BroadcastsInDim S128x30 (![] : Fin 0 → Fin S128x30.rank)
  reducesTo_S128x30_S_d0_1 : S128x30.ReducesTo [0, 1] S_
  h_S_ : 0 < S_.numel
  bcast_S_S128x200 : S_.BroadcastsInDim S128x200 (![] : Fin 0 → Fin S128x200.rank)
  reducesTo_S128x200_S_d0_1 : S128x200.ReducesTo [0, 1] S_
  bcast_S_S1x99 : S_.BroadcastsInDim S1x99 (![] : Fin 0 → Fin S1x99.rank)
  reducesTo_S1x99_S_d0_1 : S1x99.ReducesTo [0, 1] S_

variable [Facts]

def fn_part1 {F : FTy → Type} [FloatOps F] (main_v12 : IVec S_ 1) (main_v15 : IVec S1x99 1) (main_c_5 : IVec S_ 1) : IVec S_ 1 :=
  let main_v16 : IVec S_ 1 := (fun x v => Host.reduce IntOp.andi x v reducesTo_S1x99_S_d0_1 h_S_) main_v15 main_c_5
  let main_v17 : IVec S_ 1 := andi main_v12 main_v16
  main_v17

def fn {F : FTy → Type} [FloatOps F] (main_arg0 : IVec S128x30 32) (main_arg1 : IVec S128x200 32) (main_arg2 : FVec F S50000x300 .f32) (main_arg3 : FVec F S128x300x1 .f32) (main_arg4 : FVec F S128x300x2 .f32) (main_arg5 : FVec F S128x300x3 .f32) (main_arg6 : FVec F S128 .f32) (main_arg7 : FVec F S128 .f32) (main_arg8 : FVec F S128 .f32) (main_arg9 : FVec F S1x99 .f32) : IVec S_ 1 :=
  let main_c : IVec S_ 32 := constantI S_ 32 0#32
  let main_v0 : IVec S128x30 32 := broadcastInDim S128x30 ![] bcast_S_S128x30 main_c
  let main_v1 : IVec S128x30 1 := cmpi .sge main_arg0 main_v0
  let main_c_0 : IVec S_ 32 := constantI S_ 32 50000#32
  let main_v2 : IVec S128x30 32 := broadcastInDim S128x30 ![] bcast_S_S128x30 main_c_0
  let main_v3 : IVec S128x30 1 := cmpi .slt main_arg0 main_v2
  let main_v4 : IVec S128x30 1 := andi main_v1 main_v3
  let main_c_1 : IVec S_ 1 := constantI S_ 1 1#1
  let main_v5 : IVec S_ 1 := (fun x v => Host.reduce IntOp.andi x v reducesTo_S128x30_S_d0_1 h_S_) main_v4 main_c_1
  let main_c_2 : IVec S_ 32 := constantI S_ 32 0#32
  let main_v6 : IVec S128x200 32 := broadcastInDim S128x200 ![] bcast_S_S128x200 main_c_2
  let main_v7 : IVec S128x200 1 := cmpi .sge main_arg1 main_v6
  let main_c_3 : IVec S_ 32 := constantI S_ 32 50000#32
  let main_v8 : IVec S128x200 32 := broadcastInDim S128x200 ![] bcast_S_S128x200 main_c_3
  let main_v9 : IVec S128x200 1 := cmpi .slt main_arg1 main_v8
  let main_v10 : IVec S128x200 1 := andi main_v7 main_v9
  let main_c_4 : IVec S_ 1 := constantI S_ 1 1#1
  let main_v11 : IVec S_ 1 := (fun x v => Host.reduce IntOp.andi x v reducesTo_S128x200_S_d0_1 h_S_) main_v10 main_c_4
  let main_v12 : IVec S_ 1 := andi main_v5 main_v11
  let main_v13 : FVec F S1x99 .f32 := Host.absf main_arg9
  let main_cst : FVec F S_ .f32 := constant S_ .f32 0x7F800000#32
  let main_v14 : FVec F S1x99 .f32 := broadcastInDim S1x99 ![] bcast_S_S1x99 main_cst
  let main_v15 : IVec S1x99 1 := cmpf .olt main_v13 main_v14
  let main_c_5 : IVec S_ 1 := constantI S_ 1 1#1
  fn_part1 (F := F) main_v12 main_v15 main_c_5
-- ==== Kernel.lean ====
abbrev S128x30 : Shape := ⟨2, ![128, 30]⟩
abbrev S128x200 : Shape := ⟨2, ![128, 200]⟩
abbrev S50000x300 : Shape := ⟨2, ![50000, 300]⟩
abbrev S128x300x1 : Shape := ⟨3, ![128, 300, 1]⟩
abbrev S128x300x2 : Shape := ⟨3, ![128, 300, 2]⟩
abbrev S128x300x3 : Shape := ⟨3, ![128, 300, 3]⟩
abbrev S128 : Shape := ⟨1, ![128]⟩
abbrev S1x99 : Shape := ⟨2, ![1, 99]⟩
abbrev S_ : Shape := ⟨0, ![]⟩
abbrev S128x2 : Shape := ⟨2, ![128, 2]⟩
abbrev S128x232 : Shape := ⟨2, ![128, 232]⟩
abbrev S29696 : Shape := ⟨1, ![29696]⟩
abbrev S29696x1 : Shape := ⟨2, ![29696, 1]⟩
abbrev S1 : Shape := ⟨1, ![1]⟩
abbrev S1x1 : Shape := ⟨2, ![1, 1]⟩
abbrev S29696x300 : Shape := ⟨2, ![29696, 300]⟩
abbrev S128x300 : Shape := ⟨2, ![128, 300]⟩
abbrev S300x128 : Shape := ⟨2, ![300, 128]⟩
abbrev S300x768 : Shape := ⟨2, ![300, 768]⟩
abbrev S384 : Shape := ⟨1, ![384]⟩
abbrev S1x384 : Shape := ⟨2, ![1, 384]⟩
abbrev S9x11 : Shape := ⟨2, ![9, 11]⟩
abbrev S128x30x1 : Shape := ⟨3, ![128, 30, 1]⟩
abbrev S128x1x200 : Shape := ⟨3, ![128, 1, 200]⟩
abbrev S128x1x1 : Shape := ⟨3, ![128, 1, 1]⟩
abbrev S232x300 : Shape := ⟨2, ![232, 300]⟩
abbrev S1x30x1 : Shape := ⟨3, ![1, 30, 1]⟩
abbrev S1x1x200 : Shape := ⟨3, ![1, 1, 200]⟩
abbrev S1x1x1 : Shape := ⟨3, ![1, 1, 1]⟩
abbrev S30x300 : Shape := ⟨2, ![30, 300]⟩
abbrev S200x300 : Shape := ⟨2, ![200, 300]⟩
abbrev S30x768 : Shape := ⟨2, ![30, 768]⟩
abbrev S200x768 : Shape := ⟨2, ![200, 768]⟩
abbrev S1x128 : Shape := ⟨2, ![1, 128]⟩
abbrev S30x128 : Shape := ⟨2, ![30, 128]⟩
abbrev S29x128 : Shape := ⟨2, ![29, 128]⟩
abbrev S28x128 : Shape := ⟨2, ![28, 128]⟩
abbrev S2x128 : Shape := ⟨2, ![2, 128]⟩
abbrev S30 : Shape := ⟨1, ![30]⟩
abbrev S30x1 : Shape := ⟨2, ![30, 1]⟩
abbrev S200x128 : Shape := ⟨2, ![200, 128]⟩
abbrev S199x128 : Shape := ⟨2, ![199, 128]⟩
abbrev S198x128 : Shape := ⟨2, ![198, 128]⟩
abbrev S200 : Shape := ⟨1, ![200]⟩
abbrev S200x1 : Shape := ⟨2, ![200, 1]⟩
abbrev S1x200 : Shape := ⟨2, ![1, 200]⟩
abbrev S30x200 : Shape := ⟨2, ![30, 200]⟩
abbrev S30x11 : Shape := ⟨2, ![30, 11]⟩
abbrev S1x11 : Shape := ⟨2, ![1, 11]⟩

abbrev nBuf : Space → Nat
  | .hbm => 62
  | .vmem => 11
  | .smem => 0
  | _ => 0

abbrev bufTy : (tb : Table) → Fin (tcTables nBuf tb) → BufTy
  | .hbm, ⟨0, _⟩ => ⟨S128x30, .i32⟩
  | .hbm, ⟨1, _⟩ => ⟨S128x200, .i32⟩
  | .hbm, ⟨2, _⟩ => ⟨S50000x300, .f32⟩
  | .hbm, ⟨3, _⟩ => ⟨S128x300x1, .f32⟩
  | .hbm, ⟨4, _⟩ => ⟨S128x300x2, .f32⟩
  | .hbm, ⟨5, _⟩ => ⟨S128x300x3, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x99, .f32⟩
  | .hbm, ⟨10, _⟩ => ⟨S_, .i32⟩
  | .hbm, ⟨11, _⟩ => ⟨S128x2, .i32⟩
  | .hbm, ⟨12, _⟩ => ⟨S128x232, .i32⟩
  | .hbm, ⟨13, _⟩ => ⟨S29696, .i32⟩
  | .hbm, ⟨14, _⟩ => ⟨S_, .i32⟩
  | .hbm, ⟨15, _⟩ => ⟨S29696, .i32⟩
  | .hbm, ⟨16, _⟩ => ⟨S29696, .i1⟩
  | .hbm, ⟨17, _⟩ => ⟨S_, .i32⟩
  | .hbm, ⟨18, _⟩ => ⟨S29696, .i32⟩
  | .hbm, ⟨19, _⟩ => ⟨S29696, .i32⟩
  | .hbm, ⟨20, _⟩ => ⟨S29696, .i32⟩
  | .hbm, ⟨21, _⟩ => ⟨S29696x1, .i32⟩
  | .hbm, ⟨22, _⟩ => ⟨S1, .i32⟩
  | .hbm, ⟨23, _⟩ => ⟨S_, .i32⟩
  | .hbm, ⟨24, _⟩ => ⟨S29696x1, .i32⟩
  | .hbm, ⟨25, _⟩ => ⟨S29696x1, .i1⟩
  | .hbm, ⟨26, _⟩ => ⟨S1x1, .i32⟩
  | .hbm, ⟨27, _⟩ => ⟨S29696x1, .i32⟩
  | .hbm, ⟨28, _⟩ => ⟨S29696x1, .i1⟩
  | .hbm, ⟨29, _⟩ => ⟨S29696x1, .i1⟩
  | .hbm, ⟨30, _⟩ => ⟨S_, .i1⟩
  | .hbm, ⟨31, _⟩ => ⟨S29696, .i1⟩
  | .hbm, ⟨32, _⟩ => ⟨S29696x300, .f32⟩
  | .hbm, ⟨33, _⟩ => ⟨S29696x300, .i1⟩
  | .hbm, ⟨34, _⟩ => ⟨S_, .f32⟩
  | .hbm, ⟨35, _⟩ => ⟨S29696x300, .f32⟩
  | .hbm, ⟨36, _⟩ => ⟨S29696x300, .f32⟩
  | .hbm, ⟨37, _⟩ => ⟨S128x300, .f32⟩
  | .hbm, ⟨38, _⟩ => ⟨S300x128, .f32⟩
  | .hbm, ⟨39, _⟩ => ⟨S128x300x1, .f32⟩
  | .hbm, ⟨40, _⟩ => ⟨S128x300, .f32⟩
  | .hbm, ⟨41, _⟩ => ⟨S300x128, .f32⟩
  | .hbm, ⟨42, _⟩ => ⟨S128x300x1, .f32⟩
  | .hbm, ⟨43, _⟩ => ⟨S128x300, .f32⟩
  | .hbm, ⟨44, _⟩ => ⟨S300x128, .f32⟩
  | .hbm, ⟨45, _⟩ => ⟨S128x300x1, .f32⟩
  | .hbm, ⟨46, _⟩ => ⟨S128x300, .f32⟩
  | .hbm, ⟨47, _⟩ => ⟨S300x128, .f32⟩
  | .hbm, ⟨48, _⟩ => ⟨S128x300x1, .f32⟩
  | .hbm, ⟨49, _⟩ => ⟨S128x300, .f32⟩
  | .hbm, ⟨50, _⟩ => ⟨S300x128, .f32⟩
  | .hbm, ⟨51, _⟩ => ⟨S128x300x1, .f32⟩
  | .hbm, ⟨52, _⟩ => ⟨S128x300, .f32⟩
  | .hbm, ⟨53, _⟩ => ⟨S300x128, .f32⟩
  | .hbm, ⟨54, _⟩ => ⟨S300x768, .f32⟩
  | .hbm, ⟨55, _⟩ => ⟨S384, .f32⟩
  | .hbm, ⟨56, _⟩ => ⟨S1x384, .f32⟩
  | .hbm, ⟨57, _⟩ => ⟨S9x11, .f32⟩
  | .hbm, ⟨58, _⟩ => ⟨S128x30x1, .i32⟩
  | .hbm, ⟨59, _⟩ => ⟨S128x1x200, .i32⟩
  | .hbm, ⟨60, _⟩ => ⟨S128x1x1, .f32⟩
  | .hbm, ⟨61, _⟩ => ⟨S128, .f32⟩
  | .local _ .vmem, ⟨0, _⟩ => ⟨S232x300, .f32⟩
  | .local _ .vmem, ⟨1, _⟩ => ⟨S232x300, .f32⟩
  | .local _ .vmem, ⟨2, _⟩ => ⟨S1x30x1, .i32⟩
  | .local _ .vmem, ⟨3, _⟩ => ⟨S1x30x1, .i32⟩
  | .local _ .vmem, ⟨4, _⟩ => ⟨S1x1x200, .i32⟩
  | .local _ .vmem, ⟨5, _⟩ => ⟨S1x1x200, .i32⟩
  | .local _ .vmem, ⟨6, _⟩ => ⟨S300x768, .f32⟩
  | .local _ .vmem, ⟨7, _⟩ => ⟨S1x384, .f32⟩
  | .local _ .vmem, ⟨8, _⟩ => ⟨S9x11, .f32⟩
  | .local _ .vmem, ⟨9, _⟩ => ⟨S1x1x1, .f32⟩
  | .local _ .vmem, ⟨10, _⟩ => ⟨S1x1x1, .f32⟩
  | _, _ => ⟨S128x30, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S232x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x30x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S300x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x11 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "c2_exact" => some ((-((Real.log 2)⁻¹ * 500000) : ℝ) : EReal)
  | "c2_soft" => some ((-((Real.log 2)⁻¹ * 50) : ℝ) : EReal)
  | _ => none
-- ==== ReferenceIdeal.lean ====
abbrev S128x30 : Shape := ⟨2, ![128, 30]⟩
abbrev S128x200 : Shape := ⟨2, ![128, 200]⟩
abbrev S50000x300 : Shape := ⟨2, ![50000, 300]⟩
abbrev S128x300x1 : Shape := ⟨3, ![128, 300, 1]⟩
abbrev S128x300x2 : Shape := ⟨3, ![128, 300, 2]⟩
abbrev S128x300x3 : Shape := ⟨3, ![128, 300, 3]⟩
abbrev S128 : Shape := ⟨1, ![128]⟩
abbrev S1x99 : Shape := ⟨2, ![1, 99]⟩
abbrev S_ : Shape := ⟨0, ![]⟩
abbrev S1 : Shape := ⟨1, ![1]⟩
abbrev S11 : Shape := ⟨1, ![11]⟩
abbrev S10 : Shape := ⟨1, ![10]⟩
abbrev S128x30x1 : Shape := ⟨3, ![128, 30, 1]⟩
abbrev S128x1x200 : Shape := ⟨3, ![128, 1, 200]⟩
abbrev S128x30x200 : Shape := ⟨3, ![128, 30, 200]⟩
abbrev S128x30x300 : Shape := ⟨3, ![128, 30, 300]⟩
abbrev S128x200x1 : Shape := ⟨3, ![128, 200, 1]⟩
abbrev S128x200x300 : Shape := ⟨3, ![128, 200, 300]⟩
abbrev S128x300 : Shape := ⟨2, ![128, 300]⟩
abbrev S128x30x128 : Shape := ⟨3, ![128, 30, 128]⟩
abbrev S1x1x128 : Shape := ⟨3, ![1, 1, 128]⟩
abbrev S128x31x300 : Shape := ⟨3, ![128, 31, 300]⟩
abbrev S128x32x300 : Shape := ⟨3, ![128, 32, 300]⟩
abbrev S1x128x30x128 : Shape := ⟨4, ![1, 128, 30, 128]⟩
abbrev S3x128x30x128 : Shape := ⟨4, ![3, 128, 30, 128]⟩
abbrev S128x200x128 : Shape := ⟨3, ![128, 200, 128]⟩
abbrev S128x201x300 : Shape := ⟨3, ![128, 201, 300]⟩
abbrev S128x202x300 : Shape := ⟨3, ![128, 202, 300]⟩
abbrev S1x128x200x128 : Shape := ⟨4, ![1, 128, 200, 128]⟩
abbrev S3x128x200x128 : Shape := ⟨4, ![3, 128, 200, 128]⟩
abbrev S3x128x30 : Shape := ⟨3, ![3, 128, 30]⟩
abbrev S3x128x30x1 : Shape := ⟨4, ![3, 128, 30, 1]⟩
abbrev S3x128x200 : Shape := ⟨3, ![3, 128, 200]⟩
abbrev S3x128x200x1 : Shape := ⟨4, ![3, 128, 200, 1]⟩
abbrev S128x3x200x3x30 : Shape := ⟨5, ![128, 3, 200, 3, 30]⟩
abbrev S128x3x3x30x200 : Shape := ⟨5, ![128, 3, 3, 30, 200]⟩
abbrev S128x1x1x30x200 : Shape := ⟨5, ![128, 1, 1, 30, 200]⟩
abbrev S128x3x3x30x200x1 : Shape := ⟨6, ![128, 3, 3, 30, 200, 1]⟩
abbrev S1x1x1x1x1x11 : Shape := ⟨6, ![1, 1, 1, 1, 1, 11]⟩
abbrev S128x3x3x30x200x11 : Shape := ⟨6, ![128, 3, 3, 30, 200, 11]⟩
abbrev S128x1x1x30x200x1 : Shape := ⟨6, ![128, 1, 1, 30, 200, 1]⟩
abbrev S128x3x3x30x11 : Shape := ⟨5, ![128, 3, 3, 30, 11]⟩
abbrev S128x1x1x30x1 : Shape := ⟨5, ![128, 1, 1, 30, 1]⟩
abbrev S128x3x3x11 : Shape := ⟨4, ![128, 3, 3, 11]⟩
abbrev S128x99 : Shape := ⟨2, ![128, 99]⟩
abbrev S99x1 : Shape := ⟨2, ![99, 1]⟩
abbrev S128x1 : Shape := ⟨2, ![128, 1]⟩

abbrev nBuf : Space → Nat
  | .hbm => 267
  | .vmem => 0
  | .smem => 0
  | _ => 0

abbrev hbmTy0_0 (i : Nat) : BufTy := match i % 128 with
  | 0 => ⟨S128x30, .i32⟩
  | 1 => ⟨S128x200, .i32⟩
  | 2 => ⟨S50000x300, .f32⟩
  | 3 => ⟨S128x300x1, .f32⟩
  | 4 => ⟨S128x300x2, .f32⟩
  | 5 => ⟨S128x300x3, .f32⟩
  | 6 => ⟨S128, .f32⟩
  | 7 => ⟨S128, .f32⟩
  | 8 => ⟨S128, .f32⟩
  | 9 => ⟨S1x99, .f32⟩
  | 10 => ⟨S_, .f32⟩
  | 11 => ⟨S1, .f32⟩
  | 12 => ⟨S_, .f32⟩
  | 13 => ⟨S1, .f32⟩
  | 14 => ⟨S_, .f32⟩
  | 15 => ⟨S1, .f32⟩
  | 16 => ⟨S_, .f32⟩
  | 17 => ⟨S1, .f32⟩
  | 18 => ⟨S_, .f32⟩
  | 19 => ⟨S1, .f32⟩
  | 20 => ⟨S_, .f32⟩
  | 21 => ⟨S1, .f32⟩
  | 22 => ⟨S_, .f32⟩
  | 23 => ⟨S1, .f32⟩
  | 24 => ⟨S_, .f32⟩
  | 25 => ⟨S1, .f32⟩
  | 26 => ⟨S_, .f32⟩
  | 27 => ⟨S1, .f32⟩
  | 28 => ⟨S_, .f32⟩
  | 29 => ⟨S1, .f32⟩
  | 30 => ⟨S_, .f32⟩
  | 31 => ⟨S1, .f32⟩
  | 32 => ⟨S11, .f32⟩
  | 33 => ⟨S_, .f32⟩
  | 34 => ⟨S1, .f32⟩
  | 35 => ⟨S_, .f32⟩
  | 36 => ⟨S1, .f32⟩
  | 37 => ⟨S1, .f32⟩
  | 38 => ⟨S_, .f32⟩
  | 39 => ⟨S10, .f32⟩
  | 40 => ⟨S_, .f32⟩
  | 41 => ⟨S10, .f32⟩
  | 42 => ⟨S10, .f32⟩
  | 43 => ⟨S11, .f32⟩
  | 44 => ⟨S_, .i32⟩
  | 45 => ⟨S128x30, .i32⟩
  | 46 => ⟨S128x30, .i1⟩
  | 47 => ⟨S128x30, .f32⟩
  | 48 => ⟨S_, .i32⟩
  | 49 => ⟨S128x200, .i32⟩
  | 50 => ⟨S128x200, .i1⟩
  | 51 => ⟨S128x200, .f32⟩
  | 52 => ⟨S128x30x1, .f32⟩
  | 53 => ⟨S128x1x200, .f32⟩
  | 54 => ⟨S128x30x200, .f32⟩
  | 55 => ⟨S128x30x200, .f32⟩
  | 56 => ⟨S128x30x200, .f32⟩
  | 57 => ⟨S_, .i32⟩
  | 58 => ⟨S128x30, .i32⟩
  | 59 => ⟨S128x30, .i1⟩
  | 60 => ⟨S_, .i32⟩
  | 61 => ⟨S128x30, .i32⟩
  | 62 => ⟨S128x30, .i32⟩
  | 63 => ⟨S128x30, .i32⟩
  | 64 => ⟨S128x30x1, .i32⟩
  | 65 => ⟨S128x30x300, .f32⟩
  | 66 => ⟨S_, .i32⟩
  | 67 => ⟨S128x200, .i32⟩
  | 68 => ⟨S128x200, .i1⟩
  | 69 => ⟨S_, .i32⟩
  | 70 => ⟨S128x200, .i32⟩
  | 71 => ⟨S128x200, .i32⟩
  | 72 => ⟨S128x200, .i32⟩
  | 73 => ⟨S128x200x1, .i32⟩
  | 74 => ⟨S128x200x300, .f32⟩
  | 75 => ⟨S_, .i32⟩
  | 76 => ⟨S_, .f32⟩
  | 77 => ⟨S128x30x300, .f32⟩
  | 78 => ⟨S128x300, .f32⟩
  | 79 => ⟨S128x30x128, .f32⟩
  | 80 => ⟨S_, .f32⟩
  | 81 => ⟨S128x30x128, .f32⟩
  | 82 => ⟨S128x30x128, .f32⟩
  | 83 => ⟨S1x1x128, .f32⟩
  | 84 => ⟨S128x30x128, .f32⟩
  | 85 => ⟨S128x30x128, .f32⟩
  | 86 => ⟨S_, .f32⟩
  | 87 => ⟨S128x30x128, .f32⟩
  | 88 => ⟨S128x30x128, .f32⟩
  | 89 => ⟨S_, .i32⟩
  | 90 => ⟨S_, .f32⟩
  | 91 => ⟨S128x31x300, .f32⟩
  | 92 => ⟨S128x30x300, .f32⟩
  | 93 => ⟨S128x300x1, .f32⟩
  | 94 => ⟨S128x300, .f32⟩
  | 95 => ⟨S128x30x128, .f32⟩
  | 96 => ⟨S_, .f32⟩
  | 97 => ⟨S128x30x128, .f32⟩
  | 98 => ⟨S128x30x128, .f32⟩
  | 99 => ⟨S128x30x300, .f32⟩
  | 100 => ⟨S128x300x1, .f32⟩
  | 101 => ⟨S128x300, .f32⟩
  | 102 => ⟨S128x30x128, .f32⟩
  | 103 => ⟨S128x30x128, .f32⟩
  | 104 => ⟨S1x1x128, .f32⟩
  | 105 => ⟨S128x30x128, .f32⟩
  | 106 => ⟨S128x30x128, .f32⟩
  | 107 => ⟨S_, .f32⟩
  | 108 => ⟨S128x30x128, .f32⟩
  | 109 => ⟨S128x30x128, .f32⟩
  | 110 => ⟨S_, .i32⟩
  | 111 => ⟨S_, .f32⟩
  | 112 => ⟨S128x32x300, .f32⟩
  | 113 => ⟨S128x30x300, .f32⟩
  | 114 => ⟨S128x300x1, .f32⟩
  | 115 => ⟨S128x300, .f32⟩
  | 116 => ⟨S128x30x128, .f32⟩
  | 117 => ⟨S_, .f32⟩
  | 118 => ⟨S128x30x128, .f32⟩
  | 119 => ⟨S128x30x128, .f32⟩
  | 120 => ⟨S128x30x300, .f32⟩
  | 121 => ⟨S128x300x1, .f32⟩
  | 122 => ⟨S128x300, .f32⟩
  | 123 => ⟨S128x30x128, .f32⟩
  | 124 => ⟨S128x30x128, .f32⟩
  | 125 => ⟨S128x30x300, .f32⟩
  | 126 => ⟨S128x300x1, .f32⟩
  | 127 => ⟨S128x300, .f32⟩
  | _ => ⟨S128x30, .i32⟩

abbrev hbmTy0_1 (i : Nat) : BufTy := match i % 128 with
  | 0 => ⟨S128x30x128, .f32⟩
  | 1 => ⟨S128x30x128, .f32⟩
  | 2 => ⟨S1x1x128, .f32⟩
  | 3 => ⟨S128x30x128, .f32⟩
  | 4 => ⟨S128x30x128, .f32⟩
  | 5 => ⟨S_, .f32⟩
  | 6 => ⟨S128x30x128, .f32⟩
  | 7 => ⟨S128x30x128, .f32⟩
  | 8 => ⟨S1x128x30x128, .f32⟩
  | 9 => ⟨S1x128x30x128, .f32⟩
  | 10 => ⟨S1x128x30x128, .f32⟩
  | 11 => ⟨S3x128x30x128, .f32⟩
  | 12 => ⟨S_, .i32⟩
  | 13 => ⟨S_, .f32⟩
  | 14 => ⟨S128x200x300, .f32⟩
  | 15 => ⟨S128x300, .f32⟩
  | 16 => ⟨S128x200x128, .f32⟩
  | 17 => ⟨S_, .f32⟩
  | 18 => ⟨S128x200x128, .f32⟩
  | 19 => ⟨S128x200x128, .f32⟩
  | 20 => ⟨S1x1x128, .f32⟩
  | 21 => ⟨S128x200x128, .f32⟩
  | 22 => ⟨S128x200x128, .f32⟩
  | 23 => ⟨S_, .f32⟩
  | 24 => ⟨S128x200x128, .f32⟩
  | 25 => ⟨S128x200x128, .f32⟩
  | 26 => ⟨S_, .i32⟩
  | 27 => ⟨S_, .f32⟩
  | 28 => ⟨S128x201x300, .f32⟩
  | 29 => ⟨S128x200x300, .f32⟩
  | 30 => ⟨S128x300x1, .f32⟩
  | 31 => ⟨S128x300, .f32⟩
  | 32 => ⟨S128x200x128, .f32⟩
  | 33 => ⟨S_, .f32⟩
  | 34 => ⟨S128x200x128, .f32⟩
  | 35 => ⟨S128x200x128, .f32⟩
  | 36 => ⟨S128x200x300, .f32⟩
  | 37 => ⟨S128x300x1, .f32⟩
  | 38 => ⟨S128x300, .f32⟩
  | 39 => ⟨S128x200x128, .f32⟩
  | 40 => ⟨S128x200x128, .f32⟩
  | 41 => ⟨S1x1x128, .f32⟩
  | 42 => ⟨S128x200x128, .f32⟩
  | 43 => ⟨S128x200x128, .f32⟩
  | 44 => ⟨S_, .f32⟩
  | 45 => ⟨S128x200x128, .f32⟩
  | 46 => ⟨S128x200x128, .f32⟩
  | 47 => ⟨S_, .i32⟩
  | 48 => ⟨S_, .f32⟩
  | 49 => ⟨S128x202x300, .f32⟩
  | 50 => ⟨S128x200x300, .f32⟩
  | 51 => ⟨S128x300x1, .f32⟩
  | 52 => ⟨S128x300, .f32⟩
  | 53 => ⟨S128x200x128, .f32⟩
  | 54 => ⟨S_, .f32⟩
  | 55 => ⟨S128x200x128, .f32⟩
  | 56 => ⟨S128x200x128, .f32⟩
  | 57 => ⟨S128x200x300, .f32⟩
  | 58 => ⟨S128x300x1, .f32⟩
  | 59 => ⟨S128x300, .f32⟩
  | 60 => ⟨S128x200x128, .f32⟩
  | 61 => ⟨S128x200x128, .f32⟩
  | 62 => ⟨S128x200x300, .f32⟩
  | 63 => ⟨S128x300x1, .f32⟩
  | 64 => ⟨S128x300, .f32⟩
  | 65 => ⟨S128x200x128, .f32⟩
  | 66 => ⟨S128x200x128, .f32⟩
  | 67 => ⟨S1x1x128, .f32⟩
  | 68 => ⟨S128x200x128, .f32⟩
  | 69 => ⟨S128x200x128, .f32⟩
  | 70 => ⟨S_, .f32⟩
  | 71 => ⟨S128x200x128, .f32⟩
  | 72 => ⟨S128x200x128, .f32⟩
  | 73 => ⟨S1x128x200x128, .f32⟩
  | 74 => ⟨S1x128x200x128, .f32⟩
  | 75 => ⟨S1x128x200x128, .f32⟩
  | 76 => ⟨S3x128x200x128, .f32⟩
  | 77 => ⟨S3x128x30x128, .f32⟩
  | 78 => ⟨S_, .f32⟩
  | 79 => ⟨S3x128x30, .f32⟩
  | 80 => ⟨S3x128x30x1, .f32⟩
  | 81 => ⟨S3x128x30x1, .f32⟩
  | 82 => ⟨S_, .f32⟩
  | 83 => ⟨S3x128x30x1, .f32⟩
  | 84 => ⟨S3x128x30x1, .f32⟩
  | 85 => ⟨S3x128x30x128, .f32⟩
  | 86 => ⟨S3x128x30x128, .f32⟩
  | 87 => ⟨S3x128x200x128, .f32⟩
  | 88 => ⟨S_, .f32⟩
  | 89 => ⟨S3x128x200, .f32⟩
  | 90 => ⟨S3x128x200x1, .f32⟩
  | 91 => ⟨S3x128x200x1, .f32⟩
  | 92 => ⟨S_, .f32⟩
  | 93 => ⟨S3x128x200x1, .f32⟩
  | 94 => ⟨S3x128x200x1, .f32⟩
  | 95 => ⟨S3x128x200x128, .f32⟩
  | 96 => ⟨S3x128x200x128, .f32⟩
  | 97 => ⟨S128x3x200x3x30, .f32⟩
  | 98 => ⟨S128x3x3x30x200, .f32⟩
  | 99 => ⟨S128x1x1x30x200, .f32⟩
  | 100 => ⟨S128x3x3x30x200, .f32⟩
  | 101 => ⟨S128x3x3x30x200, .f32⟩
  | 102 => ⟨S128x3x3x30x200x1, .f32⟩
  | 103 => ⟨S1x1x1x1x1x11, .f32⟩
  | 104 => ⟨S128x3x3x30x200x11, .f32⟩
  | 105 => ⟨S128x3x3x30x200x11, .f32⟩
  | 106 => ⟨S128x3x3x30x200x11, .f32⟩
  | 107 => ⟨S128x3x3x30x200x11, .f32⟩
  | 108 => ⟨S128x3x3x30x200x11, .f32⟩
  | 109 => ⟨S_, .f32⟩
  | 110 => ⟨S11, .f32⟩
  | 111 => ⟨S11, .f32⟩
  | 112 => ⟨S11, .f32⟩
  | 113 => ⟨S1x1x1x1x1x11, .f32⟩
  | 114 => ⟨S128x3x3x30x200x11, .f32⟩
  | 115 => ⟨S128x3x3x30x200x11, .f32⟩
  | 116 => ⟨S128x3x3x30x200x11, .f32⟩
  | 117 => ⟨S128x1x1x30x200x1, .f32⟩
  | 118 => ⟨S128x3x3x30x200x11, .f32⟩
  | 119 => ⟨S128x3x3x30x200x11, .f32⟩
  | 120 => ⟨S_, .f32⟩
  | 121 => ⟨S128x3x3x30x11, .f32⟩
  | 122 => ⟨S_, .f32⟩
  | 123 => ⟨S_, .f32⟩
  | 124 => ⟨S128x3x3x30x11, .f32⟩
  | 125 => ⟨S128x3x3x30x11, .f32⟩
  | 126 => ⟨S128x3x3x30x11, .f32⟩
  | 127 => ⟨S_, .f32⟩
  | _ => ⟨S128x30, .i32⟩

abbrev hbmTy0_2 (i : Nat) : BufTy := match i % 128 with
  | 0 => ⟨S128x3x3x30x11, .f32⟩
  | 1 => ⟨S128x3x3x30x11, .f32⟩
  | 2 => ⟨S128x1x1x30x1, .f32⟩
  | 3 => ⟨S128x3x3x30x11, .f32⟩
  | 4 => ⟨S128x3x3x30x11, .f32⟩
  | 5 => ⟨S_, .f32⟩
  | 6 => ⟨S128x3x3x11, .f32⟩
  | 7 => ⟨S128x99, .f32⟩
  | 8 => ⟨S99x1, .f32⟩
  | 9 => ⟨S128x1, .f32⟩
  | 10 => ⟨S128, .f32⟩
  | _ => ⟨S128x30, .i32⟩

abbrev hbmTy (i : Nat) : BufTy := match i / 128 with
  | 0 => hbmTy0_0 i
  | 1 => hbmTy0_1 i
  | 2 => hbmTy0_2 i
  | _ => ⟨S128x30, .i32⟩

abbrev bufTy : (tb : Table) → Fin (tcTables nBuf tb) → BufTy
  | .hbm, ⟨i, _⟩ => hbmTy i
  | _, _ => ⟨S128x30, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_cst_3 : Ref sig .tc := ⟨.hbm, 18, rfl⟩
abbrev main_v4 : Ref sig .tc := ⟨.hbm, 19, rfl⟩
abbrev main_cst_4 : Ref sig .tc := ⟨.hbm, 20, rfl⟩
abbrev main_v5 : Ref sig .tc := ⟨.hbm, 21, rfl⟩
abbrev main_cst_5 : Ref sig .tc := ⟨.hbm, 22, rfl⟩
abbrev main_v6 : Ref sig .tc := ⟨.hbm, 23, rfl⟩
abbrev main_cst_6 : Ref sig .tc := ⟨.hbm, 24, rfl⟩
abbrev main_v7 : Ref sig .tc := ⟨.hbm, 25, rfl⟩
abbrev main_cst_7 : Ref sig .tc := ⟨.hbm, 26, rfl⟩
abbrev main_v8 : Ref sig .tc := ⟨.hbm, 27, rfl⟩
abbrev main_cst_8 : Ref sig .tc := ⟨.hbm, 28, rfl⟩
abbrev main_v9 : Ref sig .tc := ⟨.hbm, 29, rfl⟩
abbrev main_cst_9 : Ref sig .tc := ⟨.hbm, 30, rfl⟩
abbrev main_v10 : Ref sig .tc := ⟨.hbm, 31, rfl⟩
abbrev main_v11 : Ref sig .tc := ⟨.hbm, 32, rfl⟩
abbrev main_cst_10 : Ref sig .tc := ⟨.hbm, 33, rfl⟩
abbrev main_v12 : Ref sig .tc := ⟨.hbm, 34, rfl⟩
abbrev main_cst_11 : Ref sig .tc := ⟨.hbm, 35, rfl⟩
abbrev main_v13 : Ref sig .tc := ⟨.hbm, 36, rfl⟩
abbrev main_v14 : Ref sig .tc := ⟨.hbm, 37, rfl⟩
abbrev main_cst_12 : Ref sig .tc := ⟨.hbm, 38, rfl⟩
abbrev main_v15 : Ref sig .tc := ⟨.hbm, 39, rfl⟩
abbrev main_cst_13 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_14 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_15 : Ref sig .tc := ⟨.hbm, 57, rfl⟩
abbrev main_v30 : Ref sig .tc := ⟨.hbm, 58, rfl⟩
abbrev main_v31 : Ref sig .tc := ⟨.hbm, 59, rfl⟩
abbrev main_c_16 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_17 : Ref sig .tc := ⟨.hbm, 66, rfl⟩
abbrev main_v37 : Ref sig .tc := ⟨.hbm, 67, rfl⟩
abbrev main_v38 : Ref sig .tc := ⟨.hbm, 68, rfl⟩
abbrev main_c_18 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_19 : Ref sig .tc := ⟨.hbm, 75, rfl⟩
abbrev main_call0_v0 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_20 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_call1_cst : Ref sig .tc := ⟨.hbm, 86, rfl⟩
abbrev main_call1_v0 : Ref sig .tc := ⟨.hbm, 87, rfl⟩
abbrev main_v52 : Ref sig .tc := ⟨.hbm, 88, rfl⟩
abbrev main_c_21 : Ref sig .tc := ⟨.hbm, 89, rfl⟩
abbrev main_call2_v0 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_22 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_call3_cst : Ref sig .tc := ⟨.hbm, 107, rfl⟩
abbrev main_call3_v0 : Ref sig .tc := ⟨.hbm, 108, rfl⟩
abbrev main_v68 : Ref sig .tc := ⟨.hbm, 109, rfl⟩
abbrev main_c_23 : Ref sig .tc := ⟨.hbm, 110, rfl⟩
abbrev main_call4_v0 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_24 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_call5_cst : Ref sig .tc := ⟨.hbm, 133, rfl⟩
abbrev main_call5_v0 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_c_25 : Ref sig .tc := ⟨.hbm, 140, rfl⟩
abbrev main_call6_v0 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_26 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_call7_cst : Ref sig .tc := ⟨.hbm, 151, rfl⟩
abbrev main_call7_v0 : Ref sig .tc := ⟨.hbm, 152, rfl⟩
abbrev main_v102 : Ref sig .tc := ⟨.hbm, 153, rfl⟩
abbrev main_c_27 : Ref sig .tc := ⟨.hbm, 154, rfl⟩
abbrev main_call8_v0 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_28 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_call9_cst : Ref sig .tc := ⟨.hbm, 172, rfl⟩
abbrev main_call9_v0 : Ref sig .tc := ⟨.hbm, 173, rfl⟩
abbrev main_v118 : Ref sig .tc := ⟨.hbm, 174, rfl⟩
abbrev main_c_29 : Ref sig .tc := ⟨.hbm, 175, rfl⟩
abbrev main_call10_v0 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_30 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_call11_cst : Ref sig .tc := ⟨.hbm, 198, rfl⟩
abbrev main_call11_v0 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_call12_v0 : Ref sig .tc := ⟨.hbm, 205, rfl⟩
abbrev main_call12_cst : Ref sig .tc := ⟨.hbm, 206, rfl⟩
abbrev main_call12_v1 : Ref sig .tc := ⟨.hbm, 207, rfl⟩
abbrev main_call12_v2 : Ref sig .tc := ⟨.hbm, 208, rfl⟩
abbrev main_v144 : Ref sig .tc := ⟨.hbm, 209, rfl⟩
abbrev main_cst_31 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_call13_v0 : Ref sig .tc := ⟨.hbm, 215, rfl⟩
abbrev main_call13_cst : Ref sig .tc := ⟨.hbm, 216, rfl⟩
abbrev main_call13_v1 : Ref sig .tc := ⟨.hbm, 217, rfl⟩
abbrev main_call13_v2 : Ref sig .tc := ⟨.hbm, 218, rfl⟩
abbrev main_v149 : Ref sig .tc := ⟨.hbm, 219, rfl⟩
abbrev main_cst_32 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_cst_33 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_cst_34 : Ref sig .tc := ⟨.hbm, 248, rfl⟩
abbrev main_v176 : Ref sig .tc := ⟨.hbm, 249, rfl⟩
abbrev main_cst_35 : Ref sig .tc := ⟨.hbm, 250, rfl⟩
abbrev main_call14_v0 : Ref sig .tc := ⟨.hbm, 251, rfl⟩
abbrev main_call14_v1 : Ref sig .tc := ⟨.hbm, 252, rfl⟩
abbrev main_v177 : Ref sig .tc := ⟨.hbm, 253, rfl⟩
abbrev main_v178 : Ref sig .tc := ⟨.hbm, 254, rfl⟩
abbrev main_cst_36 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_cst_37 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩

abbrev nD : Nat := 1
abbrev τ : Topo := Topo.v7x

variable {F : FTy → Type} [FloatOps F]
-- ==== Proof.Spec.lean ====
/- The mathematics that the kernel and the reference share, over the extended reals and plain indices: the n-gram
   convolutions, their normalised rows, the masked cosines, the Gaussian bins and their scaled logarithms. Hand-written. -/
module

public import Idealize.ShloMosaic.PureOps.Ideal

@[expose] public section

noncomputable section

namespace Cert.Spec

open Idealize.ShloMosaic

/-- Row `l` of the embedded text, zero from its end on. -/
def row {n : ℕ} (E : Fin n → Fin 300 → EReal) (l : ℕ) (e : Fin 300) : EReal :=
  if h : l < n then E ⟨l, h⟩ e else 0

/-- Row `l` against the filters of tap `t`. -/
def tap {n : ℕ} (E : Fin n → Fin 300 → EReal) (W : Fin 6 → Fin 128 → Fin 300 → EReal) (t : Fin 6) (l : ℕ) (c : Fin 128) :
    EReal := ∑ e, row E l e * W t c e

theorem tap_lt {n : ℕ} (E : Fin n → Fin 300 → EReal) (W : Fin 6 → Fin 128 → Fin 300 → EReal) (t : Fin 6) (l : ℕ)
    (c : Fin 128) (h : l < n) : tap E W t l c = ∑ e, E ⟨l, h⟩ e * W t c e := by
  simp only [tap, row, dif_pos h]

/-- A zero row makes a zero product whatever the filters hold. -/
theorem tap_ge {n : ℕ} (E : Fin n → Fin 300 → EReal) (W : Fin 6 → Fin 128 → Fin 300 → EReal) (t : Fin 6) (l : ℕ)
    (c : Fin 128) (h : ¬ l < n) : tap E W t l c = 0 := by
  simp only [tap, row, dif_neg h, zero_mul, Finset.sum_const_zero]

/-- The three convolutions, of one, two and three taps, rectified. -/
def gram {n : ℕ} (E : Fin n → Fin 300 → EReal) (W : Fin 6 → Fin 128 → Fin 300 → EReal) (B : Fin 3 → Fin 128 → EReal)
    (i : Fin 3) (l : Fin n) (c : Fin 128) : EReal :=
  max (![tap E W 0 l c + B 0 c,
    tap E W 1 l c + tap E W 2 (l + 1) c + B 1 c,
    tap E W 3 l c + tap E W 4 (l + 1) c + tap E W 5 (l + 2) c + B 2 c] i) 0

/-- A row divided by its length plus a small constant. -/
def unit {n : ℕ} (G : Fin n → Fin 128 → EReal) (l : Fin n) (c : Fin 128) : EReal :=
  Ideal.div (G l c) (Ideal.sqrt (∑ k, G l k * G l k) + Ideal.ofBits .f32 0x29E12E13#32)

/-- The mask of a token's place: one for a proper word, zero for padding. -/
def mask (t : BitVec 32) : EReal := if BitVec.slt 0#32 t then 1 else 0

/-- The masked inner products of the query's rows and the document's. -/
def sim (Q : Fin 30 → Fin 128 → EReal) (D : Fin 200 → Fin 128 → EReal) (w : Fin 30 → Fin 200 → EReal) (q : Fin 30)
    (d : Fin 200) : EReal := (∑ c, Q q c * D d c) * w q d

/-- The bins' centres. -/
def mu (k : Fin 11) : EReal :=
  Ideal.ofBits .f32 (![0x3F800000#32, 0x3F666666#32, 0x3F333333#32, 0x3F000000#32, 0x3E99999A#32, 0x3DCCCCCD#32,
    0xBDCCCCCD#32, 0xBE99999A#32, 0xBF000000#32, 0xBF333333#32, 0xBF666666#32] k)

/-- The reciprocal of twice the squared width of a bin: the first is the narrow one. -/
def rate (k : Fin 11) : ℝ := if k = 0 then 500000 else 50

/-- A bin's Gaussian. -/
def gauss (k : Fin 11) (t : EReal) : EReal := Ideal.exp2 (t * t * ((-((Real.log 2)⁻¹ * rate k) : ℝ) : EReal))

/-- A bin summed over the document, masked. -/
def bin (x w : Fin 30 → Fin 200 → EReal) (q : Fin 30) (k : Fin 11) : EReal :=
  ∑ d, gauss k (x q d - mu k) * w q d

/-- Its logarithm, cut off below, scaled. -/
def lg (x w : Fin 30 → Fin 200 → EReal) (q : Fin 30) (k : Fin 11) : EReal :=
  Ideal.log (max (bin x w q k) (Ideal.ofBits .f32 0x2EDBE6FF#32)) * Ideal.ofBits .f32 0x3C23D70A#32

/-- One document's score: every pair's logarithms against the dense weights, summed over the bins and the pairs, then
    masked and summed over the query. -/
def score (Q : Fin 3 → Fin 30 → Fin 128 → EReal) (D : Fin 3 → Fin 200 → Fin 128 → EReal) (m : Fin 30 → EReal)
    (w : Fin 30 → Fin 200 → EReal) (r : Fin 3 → Fin 3 → Fin 11 → EReal) : EReal :=
  ∑ q, (∑ i, ∑ j, ∑ k, lg (sim (Q i) (D j) w) w q k * r i j k) * m q

/-- A token's row of the table. -/
def embed (T : Fin 50000 → Fin 300 → EReal) (t : BitVec 32) (e : Fin 300) : EReal :=
  T ⟨t.toNat % 50000, Nat.mod_lt _ (by decide)⟩ e

/-- The six taps of the three convolutions. -/
def taps (w1 : Fin 128 → Fin 300 → Fin 1 → EReal) (w2 : Fin 128 → Fin 300 → Fin 2 → EReal)
    (w3 : Fin 128 → Fin 300 → Fin 3 → EReal) (t : Fin 6) (c : Fin 128) (e : Fin 300) : EReal :=
  ![w1 c e 0, w2 c e 0, w2 c e 1, w3 c e 0, w3 c e 1, w3 c e 2] t

/-- The three biases. -/
def shifts (b1 b2 b3 : Fin 128 → EReal) (i : Fin 3) (c : Fin 128) : EReal := ![b1 c, b2 c, b3 c] i

/-- The dense weights by pair and bin. -/
def dense (r : Fin 99 → EReal) (i j : Fin 3) (k : Fin 11) : EReal := r ⟨11 * (3 * i.1 + j.1) + k.1, by omega⟩

/-- One document's score from its tokens. -/
def result (T : Fin 50000 → Fin 300 → EReal) (W : Fin 6 → Fin 128 → Fin 300 → EReal) (B : Fin 3 → Fin 128 → EReal)
    (r : Fin 3 → Fin 3 → Fin 11 → EReal) (q : Fin 30 → BitVec 32) (d : Fin 200 → BitVec 32) : EReal :=
  score (fun i => unit (gram (fun l => embed T (q l)) W B i)) (fun j => unit (gram (fun l => embed T (d l)) W B j))
    (fun l => mask (q l)) (fun l k => mask (q l) * mask (d k)) r

end Cert.Spec

end
-- ==== Proof.Body.lean ====
/- The kernel's body as nine repetitions of one computation: the column of one Gaussian bin (`column`), the term of one
   pair of n-grams (`pairTerm`) and the block that the body stores as the sum of the nine terms (`out_eq`). Hand-written. -/
module

public import proofs.«01_k».proof.Proof.Gen.KernelIdeal.Frame

@[expose] public section

set_option maxRecDepth 16384

noncomputable section

namespace Cert.KernelIdeal.Body

open Cert.KernelIdeal Cert.KernelIdeal.Gen Idealize.ShloMosaic Idealize.SL.Sem

variable {F : FTy → Type} [FloatOps F] [Named F]

/-- The masked cosines of a pair: query rows against document rows. -/
def cosines (q : FVec F S30x128 .f32) (d : FVec F S200x128 .f32) (w : FVec F S30x200 .f32) : FVec F S30x200 .f32 :=
  mulf (matmul dot_S30x128_S200x128_S30x200_1_1_0_0_n_n none q d (constant S30x200 .f32 0x00000000#32)) w

/-- One bin's column: the masked Gaussian of the distance to the bin's centre, summed over the document. -/
def column (w x : FVec F S30x200 .f32) (mu c : F .f32) : FVec F S30x1 .f32 :=
  shapeCast S30x1 (multiReduction .add [1] S30
    (mulf (exp2 (mulf (mulf (subf x (broadcast S30x200 mu)) (subf x (broadcast S30x200 mu))) (broadcast S30x200 c))) w)
    0x00000000#32 reduces_S30x200_S30 (.inl rfl) rfl) shapeCasts_S30_S30x1

/-- A bin of the wider kind, whose centre is a constant of the program. -/
def soft (w x : FVec F S30x200 .f32) (mu : BitVec 32) : FVec F S30x1 .f32 :=
  column w x (Scalar.ofBits .f32 mu) (Named.named κ "c2_soft" 0xC29044FE#32)

/-- The narrow bin. -/
def sharp (w x : FVec F S30x200 .f32) : FVec F S30x1 .f32 :=
  column w x (Scalar.ofBits .f32 0x3F800000#32) (Named.named κ "c2_exact" 0xC9301C38#32)

/-- The eleven bins side by side. -/
def bins (w x : FVec F S30x200 .f32) : FVec F S30x11 .f32 :=
  concatenate S30x11 1
    [⟨S30x1, sharp w x⟩,
     ⟨S30x1, soft w x 0x3F666666#32⟩, ⟨S30x1, soft w x 0x3F333333#32⟩, ⟨S30x1, soft w x 0x3F000000#32⟩,
     ⟨S30x1, soft w x 0x3E99999A#32⟩, ⟨S30x1, soft w x 0x3DCCCCCD#32⟩, ⟨S30x1, soft w x 0xBDCCCCCD#32⟩,
     ⟨S30x1, soft w x 0xBE99999A#32⟩, ⟨S30x1, soft w x 0xBF000000#32⟩, ⟨S30x1, soft w x 0xBF333333#32⟩,
     ⟨S30x1, soft w x 0xBF666666#32⟩]
    concatenates_S30x1_S30x1_S30x1_S30x1_S30x1_S30x1_S30x1_S30x1_S30x1_S30x1_S30x1_S30x11_d1

/-- The scaled logarithms of the bins. -/
def logs (w x : FVec F S30x200 .f32) : FVec F S30x11 .f32 :=
  mulf (log (maximumf (bins w x) (broadcast S30x11 (Scalar.ofBits .f32 0x2EDBE6FF#32))))
    (broadcast S30x11 (Scalar.ofBits .f32 0x3C23D70A#32))

/-- What one pair adds to a query row: its scaled logarithms against its row of the dense weights. -/
def pairTerm (w x : FVec F S30x200 .f32) (r : Vec F S1x11 .f32) : FVec F S30x1 .f32 :=
  shapeCast S30x1 (multiReduction .add [1] S30
    (mulf (logs w x) (broadcastTo S30x11 (shapeCast S1x11 r shapeCasts_S1x11_S1x11) broadcasts_S1x11_S30x11))
    0x00000000#32 reduces_S30x11_S30 (.inl rfl) rfl) shapeCasts_S30_S30x1

/-- The rows' totals, masked and summed into the one stored element. -/
def total (m acc : FVec F S30x1 .f32) : FVec F S1x1x1 .f32 :=
  shapeCast S1x1x1 (broadcast S1x1 (extractAt ![0, 0, 0] (shapeCast S1x1x1 (multiReduction .add [1, 2] S1
    (shapeCast S1x30x1 (mulf acc m) shapeCasts_S30x1_S1x30x1) 0x00000000#32 reduces_S1x30x1_S1 (.inl rfl) rfl)
    shapeCasts_S1_S1x1x1) inpos_S1x1x1_p0_0_0)) shapeCasts_S1x1_S1x1x1

section
variable (x0 : Vec F S232x300 .f32) (x1 : Vec F S1x30x1 .i32) (x2 : Vec F S1x1x200 .i32) (x3 : Vec F S300x768 .f32)
  (x4 : Vec F S1x384 .f32) (x5 : Vec F S9x11 .f32)

/-- The query's three normalised n-grams. -/
def qgram (i : Fin 3) : FVec F S30x128 .f32 :=
  ![k0_pay135 x0 x1 x2 x3 x4 x5, k0_pay136 x0 x1 x2 x3 x4 x5, k0_pay137 x0 x1 x2 x3 x4 x5] i

/-- The document's three normalised n-grams. -/
def dgram (i : Fin 3) : FVec F S200x128 .f32 :=
  ![k0_pay138 x0 x1 x2 x3 x4 x5, k0_pay139 x0 x1 x2 x3 x4 x5, k0_pay140 x0 x1 x2 x3 x4 x5] i

/-- The term of the pair of the query's `i`-th and the document's `j`-th n-gram, with its row of weights. -/
def term (i j : Fin 3) (r : Vec F S1x11 .f32) : FVec F S30x1 .f32 :=
  pairTerm (k0_pay142 x0 x1 x2 x3 x4 x5)
    (cosines (qgram x0 x1 x2 x3 x4 x5 i) (dgram x0 x1 x2 x3 x4 x5 j) (k0_pay142 x0 x1 x2 x3 x4 x5)) r

/-- What the body stores: the nine terms added up in order, masked and summed. -/
theorem out_eq : out0_6 x0 x1 x2 x3 x4 x5 = View.canon [⟨r0_16, total (k0_pay19 (F := F) (k0_pay141 x0 x1 x2 x3 x4 x5))
    (addf (addf (addf (addf (addf (addf (addf (addf (addf (broadcast S30x1 (Scalar.ofBits .f32 0x00000000#32))
      (term x0 x1 x2 x3 x4 x5 0 0 (View.ld x5 r0_7))) (term x0 x1 x2 x3 x4 x5 0 1 (View.ld x5 r0_8)))
      (term x0 x1 x2 x3 x4 x5 0 2 (View.ld x5 r0_9))) (term x0 x1 x2 x3 x4 x5 1 0 (View.ld x5 r0_10)))
      (term x0 x1 x2 x3 x4 x5 1 1 (View.ld x5 r0_11))) (term x0 x1 x2 x3 x4 x5 1 2 (View.ld x5 r0_12)))
      (term x0 x1 x2 x3 x4 x5 2 0 (View.ld x5 r0_13))) (term x0 x1 x2 x3 x4 x5 2 1 (View.ld x5 r0_14)))
      (term x0 x1 x2 x3 x4 x5 2 2 (View.ld x5 r0_15)))⟩] := rfl

end

end Cert.KernelIdeal.Body

end
-- ==== Proof.KPair.lean ====
/- The kernel's pair of n-grams read at an index: a bin's column, the eleven bins, the pair's term and the stored total.
   Hand-written. -/
module

public import proofs.«01_k».proof.Proof.Body
public import proofs.«01_k».proof.Proof.Spec
public import Idealize.ShloMosaic.Lib.Pointwise

@[expose] public section

set_option maxRecDepth 16384

noncomputable section

namespace Cert.KernelIdeal.Body

open Cert.KernelIdeal Cert.KernelIdeal.Gen Idealize.ShloMosaic Idealize.SL.Sem

theorem c2_exact : (Named.named (F := Ideal) κ "c2_exact" 0xC9301C38#32 : Ideal .f32) = ((-((Real.log 2)⁻¹ * Spec.rate 0) : ℝ) : EReal) := by
  rw [IdealRules.named_const.ideal_named_scalar _ _ _ _ rfl, Spec.rate, if_pos rfl]

theorem c2_soft {k : Fin 11} (hk : k ≠ 0) :
    (Named.named (F := Ideal) κ "c2_soft" 0xC29044FE#32 : Ideal .f32) = ((-((Real.log 2)⁻¹ * Spec.rate k) : ℝ) : EReal) := by
  rw [IdealRules.named_const.ideal_named_scalar _ _ _ _ rfl, Spec.rate, if_neg hk]

theorem cosines_apply (q : FVec Ideal S30x128 .f32) (d : FVec Ideal S200x128 .f32) (w : FVec Ideal S30x200 .f32) (i : Fin 30) (j : Fin 200) :
    cosines q d w (ix2 i j) = Spec.sim (fun a b => q (ix2 a b)) (fun a b => d (ix2 a b)) (fun a b => w (ix2 a b)) i j := by
  pointwise [cosines, Spec.sim]

theorem column_apply (w x : FVec Ideal S30x200 .f32) (mu c : EReal) (q : Fin 30) (z : Fin 1) :
    column (F := Ideal) w x mu c (ix2 q z) = ∑ d : Fin 200, Ideal.exp2 ((x (ix2 q d) - mu) * (x (ix2 q d) - mu) * c) * w (ix2 q d) := by
  pointwise [column]
  rfl

theorem sharp_apply (w x : FVec Ideal S30x200 .f32) (q : Fin 30) (z : Fin 1) :
    sharp (F := Ideal) w x (ix2 q z) =
      Spec.bin (fun a b => x (ix2 a b)) (fun a b => w (ix2 a b)) q 0 := by
  rw [sharp, c2_exact]; exact column_apply _ _ _ _ _ _

theorem soft_apply (w x : FVec Ideal S30x200 .f32) (mu : BitVec 32) (q : Fin 30) (z : Fin 1) (k : Fin 11) (hk : k ≠ 0)
    (hm : Ideal.ofBits .f32 mu = Spec.mu k) :
    soft (F := Ideal) w x mu (ix2 q z) = Spec.bin (fun a b => x (ix2 a b)) (fun a b => w (ix2 a b)) q k := by
  rw [soft, c2_soft hk]
  refine (column_apply _ _ _ _ _ _).trans ?_
  rw [show (Scalar.ofBits (F := Ideal) .f32 mu : Ideal .f32) = Spec.mu k from hm]; rfl

theorem bins_apply (w x : FVec Ideal S30x200 .f32) (q : Fin 30) (k : Fin 11) :
    bins (F := Ideal) w x (ix2 q k) = Spec.bin (fun a b => x (ix2 a b)) (fun a b => w (ix2 a b)) q k := by
  pointwise [bins]
  fin_vals k with hk
  all_goals simp only [hk, Nat.reduceSub, Nat.reduceLT, ↓reduceDIte]
  all_goals obtain ⟨k, hlt⟩ := k
  all_goals dsimp only at hk
  all_goals subst hk
  · exact sharp_apply w x q _
  all_goals exact soft_apply w x _ q _ _ (by intro h; cases h) rfl

theorem logs_apply (w x : FVec Ideal S30x200 .f32) (q : Fin 30) (k : Fin 11) :
    logs (F := Ideal) w x (ix2 q k) = Spec.lg (fun a b => x (ix2 a b)) (fun a b => w (ix2 a b)) q k := by
  pointwise [logs, Spec.lg, bins_apply]

theorem pairTerm_apply (w x : FVec Ideal S30x200 .f32) (r : Vec Ideal S1x11 .f32) (q : Fin 30) (z : Fin 1) :
    pairTerm (F := Ideal) w x r (ix2 q z) =
      ∑ k : Fin 11, Spec.lg (fun a b => x (ix2 a b)) (fun a b => w (ix2 a b)) q k * r (ix2 0 k) := by
  pointwise [pairTerm, logs_apply]

theorem total_apply (m acc : FVec Ideal S30x1 .f32) (a b c : Fin 1) :
    total (F := Ideal) m acc (ix3 a b c) = ∑ q : Fin 30, acc (ix2 q 0) * m (ix2 q 0) := by
  pointwise [total]
  simp only [Finset.univ_unique, Finset.sum_singleton]

end Cert.KernelIdeal.Body

end
-- ==== Proof.KGram.lean ====
/- The kernel's normalised n-grams and masks read at an index, in terms of the blocks that the body loads. Hand-written. -/
module

public import proofs.«01_k».proof.Proof.Body
public import proofs.«01_k».proof.Proof.Spec
public import Idealize.ShloMosaic.Lib.Pointwise

@[expose] public section

set_option maxRecDepth 16384

noncomputable section

namespace Cert.KernelIdeal.Body

open Cert.KernelIdeal Cert.KernelIdeal.Gen Idealize.ShloMosaic Idealize.SL.Sem

variable (x0 : Vec Ideal S232x300 .f32) (x1 : Vec Ideal S1x30x1 .i32) (x2 : Vec Ideal S1x1x200 .i32)
  (x3 : Vec Ideal S300x768 .f32) (x4 : Vec Ideal S1x384 .f32) (x5 : Vec Ideal S9x11 .f32)

/-- The query's rows of the block of embedded tokens. -/
def qrows (l : Fin 30) (e : Fin 300) : EReal := x0 (ix2 ⟨l.1, by omega⟩ e)

/-- The document's rows of it. -/
def drows (l : Fin 200) (e : Fin 300) : EReal := x0 (ix2 ⟨30 + l.1, by omega⟩ e)

/-- The filters of tap `t`, a block of columns of the joined weights. -/
def filters (t : Fin 6) (c : Fin 128) (e : Fin 300) : EReal := x3 (ix2 e ⟨128 * t.1 + c.1, by omega⟩)

/-- The biases of the `i`-th convolution. -/
def biases (i : Fin 3) (c : Fin 128) : EReal := x4 (ix2 0 ⟨128 * i.1 + c.1, by omega⟩)

/-- One entry of the product of the query's rows and the joined weights. -/
theorem qdot_apply (l : Fin 30) (j : Fin 768) :
    k0_pay4 (F := Ideal) (View.ld x0 r0_0) (View.ld x3 r0_1) (ix2 l j) = ∑ e, qrows x0 l e * x3 (ix2 e j) := by
  pointwise [k0_pay4, k0_pay2, k0_pay3, qrows]

theorem ddot_apply (l : Fin 200) (j : Fin 768) :
    k0_pay5 (F := Ideal) (View.ld x0 r0_0) (View.ld x3 r0_1) (ix2 l j) = ∑ e, drows x0 l e * x3 (ix2 e j) := by
  pointwise [k0_pay5, k0_pay2, k0_pay3, drows]

/-- The query's product, in the block of columns of tap `t`. -/
theorem qtap_apply (t : Fin 6) (l : Fin 30) (c : Fin 128) (j : Fin 768) (hj : j.1 = 128 * t.1 + c.1) :
    k0_pay4 (F := Ideal) (View.ld x0 r0_0) (View.ld x3 r0_1) (ix2 l j) = Spec.tap (qrows x0) (filters x3) t l.1 c := by
  rw [qdot_apply, Spec.tap_lt _ _ _ _ _ l.2]
  simp only [filters, ← hj, Fin.eta]

/-- The rows moved up by `s`, zero rows below. -/
theorem qshift_apply (t : Fin 6) (l : Fin 30) (s n : ℕ) (hn : n + s = 30) (c : Fin 128) (j : Fin 768)
    (hj : j.1 = 128 * t.1 + c.1) (p : ∀ _ : l.1 < n, s + l.1 < 30) :
    (if h : l.1 < n then k0_pay4 (F := Ideal) (View.ld x0 r0_0) (View.ld x3 r0_1) (ix2 ⟨s + l.1, p h⟩ j) else 0) =
      Spec.tap (qrows x0) (filters x3) t (l.1 + s) c := by
  split_ifs with h
  · rw [qtap_apply x0 x3 t _ c j hj]; simp only [Nat.add_comm]
  · rw [Spec.tap_ge _ _ _ _ _ (by omega)]

/-- The document's product, in the block of columns of tap `t`. -/
theorem dtap_apply (t : Fin 6) (l : Fin 200) (c : Fin 128) (j : Fin 768) (hj : j.1 = 128 * t.1 + c.1) :
    k0_pay5 (F := Ideal) (View.ld x0 r0_0) (View.ld x3 r0_1) (ix2 l j) = Spec.tap (drows x0) (filters x3) t l.1 c := by
  rw [ddot_apply, Spec.tap_lt _ _ _ _ _ l.2]
  simp only [filters, ← hj, Fin.eta]

/-- The rows moved up by `s`, zero rows below. -/
theorem dshift_apply (t : Fin 6) (l : Fin 200) (s n : ℕ) (hn : n + s = 200) (c : Fin 128) (j : Fin 768)
    (hj : j.1 = 128 * t.1 + c.1) (p : ∀ _ : l.1 < n, s + l.1 < 200) :
    (if h : l.1 < n then k0_pay5 (F := Ideal) (View.ld x0 r0_0) (View.ld x3 r0_1) (ix2 ⟨s + l.1, p h⟩ j) else 0) =
      Spec.tap (drows x0) (filters x3) t (l.1 + s) c := by
  split_ifs with h
  · rw [dtap_apply x0 x3 t _ c j hj]; simp only [Nat.add_comm]
  · rw [Spec.tap_ge _ _ _ _ _ (by omega)]

theorem q1_apply (l : Fin 30) (c : Fin 128) :
    k0_pay6 (F := Ideal) (View.ld x0 r0_0) (View.ld x3 r0_1) (View.ld x4 r0_2) (ix2 l c) =
      Spec.gram (qrows x0) (filters x3) (biases x4) 0 l c := by
  pointwise [k0_pay6]
  refine (congrArg₂ max (congrArg₂ HAdd.hAdd (qtap_apply x0 x3 0 l c _ (by simp))
    rfl) rfl).trans ?_
  simp [Spec.gram, biases]

theorem q2_scalar (l : Fin 30) (c : Fin 128) (p1 : ∀ _ : l.1 < 29, 1 + l.1 < 30) :
    max (k0_pay4 (F := Ideal) (View.ld x0 r0_0) (View.ld x3 r0_1) (ix2 l ⟨128 + c.1, by omega⟩)
      + (if h : l.1 < 29 then k0_pay4 (F := Ideal) (View.ld x0 r0_0) (View.ld x3 r0_1) (ix2 ⟨1 + l.1, p1 h⟩ ⟨256 + c.1, by omega⟩) else 0)
      + x4 (ix2 0 ⟨128 + c.1, by omega⟩)) 0 = Spec.gram (qrows x0) (filters x3) (biases x4) 1 l c := by
  rw [qtap_apply x0 x3 1 l c _ (by simp),
    qshift_apply x0 x3 2 l 1 29 rfl c _ (by simp)]
  simp [Spec.gram, biases]

theorem q2_apply (l : Fin 30) (c : Fin 128) :
    k0_pay7 (F := Ideal) (View.ld x0 r0_0) (View.ld x3 r0_1) (View.ld x4 r0_3) (ix2 l c) =
      Spec.gram (qrows x0) (filters x3) (biases x4) 1 l c := by
  pointwise [k0_pay7]
  exact q2_scalar x0 x3 x4 l c _

theorem q3_scalar (l : Fin 30) (c : Fin 128) (p1 : ∀ _ : l.1 < 29, 1 + l.1 < 30) (p2 : ∀ _ : l.1 < 28, 2 + l.1 < 30) :
    max (k0_pay4 (F := Ideal) (View.ld x0 r0_0) (View.ld x3 r0_1) (ix2 l ⟨384 + c.1, by omega⟩)
      + (if h : l.1 < 29 then k0_pay4 (F := Ideal) (View.ld x0 r0_0) (View.ld x3 r0_1) (ix2 ⟨1 + l.1, p1 h⟩ ⟨512 + c.1, by omega⟩) else 0)
      + (if h : l.1 < 28 then k0_pay4 (F := Ideal) (View.ld x0 r0_0) (View.ld x3 r0_1) (ix2 ⟨2 + l.1, p2 h⟩ ⟨640 + c.1, by omega⟩) else 0)
      + x4 (ix2 0 ⟨256 + c.1, by omega⟩)) 0 = Spec.gram (qrows x0) (filters x3) (biases x4) 2 l c := by
  rw [qtap_apply x0 x3 3 l c _ (by simp),
    qshift_apply x0 x3 4 l 1 29 rfl c _ (by simp),
    qshift_apply x0 x3 5 l 2 28 rfl c _ (by simp)]
  simp [Spec.gram, biases]

theorem q3_apply (l : Fin 30) (c : Fin 128) :
    max (k0_pay8 (F := Ideal) (View.ld x0 r0_0) (View.ld x3 r0_1) (View.ld x4 r0_4) (ix2 l c)) 0 =
      Spec.gram (qrows x0) (filters x3) (biases x4) 2 l c := by
  pointwise [k0_pay8]
  exact q3_scalar x0 x3 x4 l c _ _

theorem d1_apply (l : Fin 200) (c : Fin 128) :
    k0_pay13 (F := Ideal) (k0_pay5 (F := Ideal) (View.ld x0 r0_0) (View.ld x3 r0_1)) (View.ld x4 r0_2) (ix2 l c) =
      Spec.gram (drows x0) (filters x3) (biases x4) 0 l c := by
  pointwise [k0_pay13]
  refine (congrArg₂ max (congrArg₂ HAdd.hAdd (dtap_apply x0 x3 0 l c _ (by simp))
    rfl) rfl).trans ?_
  simp [Spec.gram, biases]

theorem d2_scalar (l : Fin 200) (c : Fin 128) (p1 : ∀ _ : l.1 < 199, 1 + l.1 < 200) :
    max (k0_pay5 (F := Ideal) (View.ld x0 r0_0) (View.ld x3 r0_1) (ix2 l ⟨128 + c.1, by omega⟩)
      + (if h : l.1 < 199 then k0_pay5 (F := Ideal) (View.ld x0 r0_0) (View.ld x3 r0_1) (ix2 ⟨1 + l.1, p1 h⟩ ⟨256 + c.1, by omega⟩) else 0)
      + x4 (ix2 0 ⟨128 + c.1, by omega⟩)) 0 = Spec.gram (drows x0) (filters x3) (biases x4) 1 l c := by
  rw [dtap_apply x0 x3 1 l c _ (by simp),
    dshift_apply x0 x3 2 l 1 199 rfl c _ (by simp)]
  simp [Spec.gram, biases]

theorem d2_apply (l : Fin 200) (c : Fin 128) :
    max (k0_pay14 (F := Ideal) (k0_pay5 (F := Ideal) (View.ld x0 r0_0) (View.ld x3 r0_1)) (View.ld x4 r0_3) (ix2 l c)) 0 =
      Spec.gram (drows x0) (filters x3) (biases x4) 1 l c := by
  pointwise [k0_pay14]
  exact d2_scalar x0 x3 x4 l c _

theorem q1_unit (l : Fin 30) (c : Fin 128) :
    k0_pay135 (F := Ideal) x0 x1 x2 x3 x4 x5 (ix2 l c) =
      Spec.unit (Spec.gram (qrows x0) (filters x3) (biases x4) 0) l c := by
  pointwise [k0_pay135, k0_pay9, q1_apply, Spec.unit]

theorem q2_unit (l : Fin 30) (c : Fin 128) :
    k0_pay136 (F := Ideal) x0 x1 x2 x3 x4 x5 (ix2 l c) =
      Spec.unit (Spec.gram (qrows x0) (filters x3) (biases x4) 1) l c := by
  pointwise [k0_pay136, k0_pay10, q2_apply, Spec.unit]

theorem q3_unit (l : Fin 30) (c : Fin 128) :
    k0_pay137 (F := Ideal) x0 x1 x2 x3 x4 x5 (ix2 l c) =
      Spec.unit (Spec.gram (qrows x0) (filters x3) (biases x4) 2) l c := by
  pointwise [k0_pay137, k0_pay11, q3_apply, Spec.unit]

theorem d1_unit (l : Fin 200) (c : Fin 128) :
    k0_pay138 (F := Ideal) x0 x1 x2 x3 x4 x5 (ix2 l c) =
      Spec.unit (Spec.gram (drows x0) (filters x3) (biases x4) 0) l c := by
  pointwise [k0_pay138, k0_pay134, k0_pay15, d1_apply, Spec.unit]

theorem d2_unit (l : Fin 200) (c : Fin 128) :
    k0_pay139 (F := Ideal) x0 x1 x2 x3 x4 x5 (ix2 l c) =
      Spec.unit (Spec.gram (drows x0) (filters x3) (biases x4) 1) l c := by
  pointwise [k0_pay139, k0_pay134, k0_pay16, d2_apply, Spec.unit]

theorem d3_scalar (l : Fin 200) (c : Fin 128) (p1 : ∀ _ : l.1 < 199, 1 + l.1 < 200) (p2 : ∀ _ : l.1 < 198, 2 + l.1 < 200) :
    max (k0_pay5 (F := Ideal) (View.ld x0 r0_0) (View.ld x3 r0_1) (ix2 l ⟨384 + c.1, by omega⟩)
      + (if h : l.1 < 199 then k0_pay5 (F := Ideal) (View.ld x0 r0_0) (View.ld x3 r0_1) (ix2 ⟨1 + l.1, p1 h⟩ ⟨512 + c.1, by omega⟩) else 0)
      + (if h : l.1 < 198 then k0_pay5 (F := Ideal) (View.ld x0 r0_0) (View.ld x3 r0_1) (ix2 ⟨2 + l.1, p2 h⟩ ⟨640 + c.1, by omega⟩) else 0)
      + x4 (ix2 0 ⟨256 + c.1, by omega⟩)) 0 = Spec.gram (drows x0) (filters x3) (biases x4) 2 l c := by
  rw [dtap_apply x0 x3 3 l c _ (by simp),
    dshift_apply x0 x3 4 l 1 199 rfl c _ (by simp),
    dshift_apply x0 x3 5 l 2 198 rfl c _ (by simp)]
  simp [Spec.gram, biases]

theorem d3_unit (l : Fin 200) (c : Fin 128) :
    k0_pay140 (F := Ideal) x0 x1 x2 x3 x4 x5 (ix2 l c) =
      Spec.unit (Spec.gram (drows x0) (filters x3) (biases x4) 2) l c := by
  pointwise [k0_pay140, k0_pay134, k0_pay12, k0_pay17, Spec.unit]
  exact congrArg₂ Ideal.div (d3_scalar x0 x3 x4 l c _ _) (congrArg₂ HAdd.hAdd (congrArg Ideal.sqrt
    (Finset.sum_congr rfl fun k _ => congrArg₂ HMul.hMul (d3_scalar x0 x3 x4 l k _ _) (d3_scalar x0 x3 x4 l k _ _))) rfl)

/-- The query's n-grams, each of them. -/
theorem qgram_apply (i : Fin 3) (l : Fin 30) (c : Fin 128) : qgram (F := Ideal) x0 x1 x2 x3 x4 x5 i (ix2 l c) =
    Spec.unit (Spec.gram (qrows x0) (filters x3) (biases x4) i) l c := by
  fin_cases i
  · exact q1_unit x0 x1 x2 x3 x4 x5 l c
  · exact q2_unit x0 x1 x2 x3 x4 x5 l c
  · exact q3_unit x0 x1 x2 x3 x4 x5 l c

theorem dgram_apply (i : Fin 3) (l : Fin 200) (c : Fin 128) : dgram (F := Ideal) x0 x1 x2 x3 x4 x5 i (ix2 l c) =
    Spec.unit (Spec.gram (drows x0) (filters x3) (biases x4) i) l c := by
  fin_cases i
  · exact d1_unit x0 x1 x2 x3 x4 x5 l c
  · exact d2_unit x0 x1 x2 x3 x4 x5 l c
  · exact d3_unit x0 x1 x2 x3 x4 x5 l c

/-- A truth value widened to a word and read as a number. -/
theorem sitofp_flag (t : BitVec 32) :
    (FloatOps.sitofp .f32 (BitVec.setWidth 32 (IntOp.cmpi CmpIPredicate.sgt t 0#32)) : Ideal .f32) = Spec.mask t := by
  show (((BitVec.setWidth 32 (IntOp.cmpi CmpIPredicate.sgt t 0#32)).toInt : ℝ) : EReal) = _
  simp only [IntOp.cmpi, Spec.mask]
  by_cases h : BitVec.slt 0#32 t <;> simp [h]

theorem qmask_apply (q : Fin 30) (z : Fin 1) :
    k0_pay19 (F := Ideal) (k0_pay141 x0 x1 x2 x3 x4 x5) (ix2 q z) = Spec.mask (x1 (ix3 0 q 0)) := by
  pointwise [k0_pay141, k0_pay19, k0_pay18, sitofp_flag]

theorem qdmask_apply (q : Fin 30) (d : Fin 200) :
    k0_pay142 (F := Ideal) x0 x1 x2 x3 x4 x5 (ix2 q d) = Spec.mask (x1 (ix3 0 q 0)) * Spec.mask (x2 (ix3 0 0 d)) := by
  pointwise [k0_pay142, k0_pay20, qmask_apply, sitofp_flag]

end Cert.KernelIdeal.Body

end
-- ==== Proof.KOut.lean ====
/- What the kernel's body leaves in its one-element output block, as the score of the blocks that it loads. Hand-written. -/
module

public import proofs.«01_k».proof.Proof.KPair
public import proofs.«01_k».proof.Proof.KGram
public import Idealize.ShloMosaic.Lib.Pipeline.ValueKit

@[expose] public section

set_option maxRecDepth 16384

noncomputable section

namespace Cert.KernelIdeal.Body

open Cert.KernelIdeal Cert.KernelIdeal.Gen Idealize.ShloMosaic Idealize.SL.Sem

variable (x0 : Vec Ideal S232x300 .f32) (x1 : Vec Ideal S1x30x1 .i32) (x2 : Vec Ideal S1x1x200 .i32)
  (x3 : Vec Ideal S300x768 .f32) (x4 : Vec Ideal S1x384 .f32) (x5 : Vec Ideal S9x11 .f32)

/-- A pair's term with its weights. -/
theorem term_apply (i j : Fin 3) (r : Vec Ideal S1x11 .f32) (q : Fin 30) (z : Fin 1) :
    term (F := Ideal) x0 x1 x2 x3 x4 x5 i j r (ix2 q z) =
      ∑ k : Fin 11, Spec.lg (Spec.sim (Spec.unit (Spec.gram (qrows x0) (filters x3) (biases x4) i))
        (Spec.unit (Spec.gram (drows x0) (filters x3) (biases x4) j))
        (fun q d => Spec.mask (x1 (ix3 0 q 0)) * Spec.mask (x2 (ix3 0 0 d))))
        (fun q d => Spec.mask (x1 (ix3 0 q 0)) * Spec.mask (x2 (ix3 0 0 d))) q k * r (ix2 0 k) := by
  rw [term, pairTerm_apply]
  simp only [cosines_apply, qgram_apply, dgram_apply, qdmask_apply]

/-- The row of the dense weights of a pair. -/
def weights (i j : Fin 3) (k : Fin 11) : EReal := x5 (ix2 ⟨3 * i.1 + j.1, by omega⟩ k)

/-- The stored element. -/
theorem out_apply (a b c : Fin 1) : out0_6 (F := Ideal) x0 x1 x2 x3 x4 x5 (ix3 a b c) =
    Spec.score (fun i => Spec.unit (Spec.gram (qrows x0) (filters x3) (biases x4) i))
      (fun j => Spec.unit (Spec.gram (drows x0) (filters x3) (biases x4) j))
      (fun q => Spec.mask (x1 (ix3 0 q 0))) (fun q d => Spec.mask (x1 (ix3 0 q 0)) * Spec.mask (x2 (ix3 0 0 d)))
      (weights x5) := by
  rw [out_eq, View.canon_cons_unit_lit _ _ _ (by decide), total_apply]
  pointwise [term_apply, qmask_apply, Spec.score, weights]
  simp only [Fin.sum_univ_three, zero_add, add_assoc]
  rfl

end Cert.KernelIdeal.Body

end
-- ==== Proof.KHost.lean ====
/- The arrays that the host lines hand to the kernel's region, as functions of the arguments, and read at an index.
   Hand-written. -/
module

public import proofs.«01_k».proof.Proof.Gen.KernelIdeal.Frame
public import Idealize.ShloMosaic.Lib.Pointwise
public import Idealize.ShloMosaic.Lib.Pipeline.ValueKit
public import Idealize.ShloMosaic.Lib.Routing.Ops
public import Idealize.ShloMosaic.Lib.Claim
public import Idealize.ShloMosaic.Lib.StableHlo.RunRead

@[expose] public section

set_option maxRecDepth 16384

noncomputable section

namespace Cert.KernelIdeal.Host

open Cert.KernelIdeal Cert.KernelIdeal.Gen Idealize.ShloMosaic Idealize.ShloMosaic.TcCoe Idealize.SL.Sem

variable {F : FTy → Type} [FloatOps F]

/-- All tokens in one line: each text's query, document and two zeros. -/
def tokens (q : IVec S128x30 32) (d : IVec S128x200 32) : IVec S29696 32 :=
  shapeCast S29696 (concatenate S128x232 1 [⟨S128x30, q⟩, ⟨S128x200, d⟩,
    ⟨S128x2, broadcastInDim S128x2 ![] bcast_S_S128x2 (constantI S_ 32 0#32)⟩]
    concatenates_S128x30_S128x200_S128x2_S128x232_d1) shapeCasts_S128x232_S29696

/-- The rows to be taken: a negative token counts from the end. -/
def starts (t : IVec S29696 32) : IVec S29696x1 32 :=
  broadcastInDim S29696x1 ![0] bcast_S29696_S29696x1_0
    (select (cmpi .slt t (broadcastInDim S29696 ![] bcast_S_S29696 (constantI S_ 32 0#32)))
      (addi t (broadcastInDim S29696 ![] bcast_S_S29696 (constantI S_ 32 50000#32))) t)

/-- Whether a row to be taken lies in the table. -/
def inside (s : IVec S29696x1 32) : IVec S29696 1 :=
  Host.reduce IntOp.andi
    (andi (cmpi .sge s (broadcastInDim S29696x1 ![] bcast_S_S29696x1 (constantI S_ 32 0#32)))
      (cmpi .sle s (broadcastInDim S29696x1 ![0, 1] bcast_S1x1_S29696x1_0_1
        (broadcastInDim S1x1 ![1] bcast_S1_S1x1_1 (constantI S1 32 49999#32)))))
    (constantI S_ 1 1#1) reducesTo_S29696x1_S29696_d1 h_S_

/-- The rows taken, those outside the table replaced by a fixed value. -/
def taken (table : FVec F S50000x300 .f32) (t : IVec S29696 32) : FVec F S29696x300 .f32 :=
  select (broadcastInDim S29696x300 ![0] bcast_S29696_S29696x300_0 (inside (starts t)))
    (Host.gather gather_S50000x300_S29696x1_S29696x300_1_0_n_n_0_1_1300 table (starts t))
    (broadcastInDim S29696x300 ![] bcast_S_S29696x300 (constant S_ .f32 0x7FC00000#32))

/-- The filters of one tap as a table of columns. -/
def flat (w : FVec F S128x300x1 .f32) : FVec F S300x128 .f32 :=
  transpose S300x128 [1, 0] (shapeCast S128x300 w shapeCasts_S128x300x1_S128x300) transposes_S128x300_S300x128_1_0

/-- The six taps side by side. -/
def joined (w1 : FVec F S128x300x1 .f32) (w2 : FVec F S128x300x2 .f32) (w3 : FVec F S128x300x3 .f32) : FVec F S300x768 .f32 :=
  concatenate S300x768 1 [⟨S300x128, flat w1⟩,
    ⟨S300x128, flat (extractStridedSlice S128x300x1 ![0, 0, 0] w2 slices_S128x300x2_S128x300x1_0_0_0)⟩,
    ⟨S300x128, flat (extractStridedSlice S128x300x1 ![0, 0, 1] w2 slices_S128x300x2_S128x300x1_0_0_1)⟩,
    ⟨S300x128, flat (extractStridedSlice S128x300x1 ![0, 0, 0] w3 slices_S128x300x3_S128x300x1_0_0_0)⟩,
    ⟨S300x128, flat (extractStridedSlice S128x300x1 ![0, 0, 1] w3 slices_S128x300x3_S128x300x1_0_0_1)⟩,
    ⟨S300x128, flat (extractStridedSlice S128x300x1 ![0, 0, 2] w3 slices_S128x300x3_S128x300x1_0_0_2)⟩]
    concatenates_S300x128_S300x128_S300x128_S300x128_S300x128_S300x128_S300x768_d1

/-- The three biases in one row. -/
def bias (b1 b2 b3 : FVec F S128 .f32) : FVec F S1x384 .f32 :=
  broadcastInDim S1x384 ![1] bcast_S384_S1x384_1
    (concatenate S384 0 [⟨S128, b1⟩, ⟨S128, b2⟩, ⟨S128, b3⟩] concatenates_S128_S128_S128_S384_d0)

variable [Named F] (m : (ℓ : Loc nD τ sig) → Buf (Elt F) ℓ) (c : Dev nD)

/-- The second line of host operations takes the rows, whatever the buffers held before it. -/
theorem take_result (W : Valuation τ sig (Elt F)) : StableHlo.after hostOps0_1 W main_v3
    = taken (F := F) (W (Proc.devRef .tc main_arg2)) (W (Proc.devRef .tc main_v2)) := by
  dsimp only [hostOps0_1]
  after_reads_simp
  simp -implicitDefEqProofs only [StableHlo.TRef.toBuf, StableHlo.TRef.ofBuf, cast_cast, cast_eq]
  rfl

/-- The first line puts the tokens in order. -/
theorem tokens_result (W : Valuation τ sig (Elt F)) : StableHlo.after hostOps0 W (Proc.devRef .tc main_v2)
    = tokens (W (Proc.devRef .tc main_arg0)) (W (Proc.devRef .tc main_arg1)) := by
  dsimp only [hostOps0]
  after_reads_simp
  rfl

theorem table_result (W : Valuation τ sig (Elt F)) : StableHlo.after hostOps0 W (Proc.devRef .tc main_arg2)
    = W (Proc.devRef .tc main_arg2) := by
  dsimp only [hostOps0]
  after_reads_simp

theorem rest_result (W : Valuation τ sig (Elt F)) : StableHlo.after hostOps0_2 W (Proc.devRef .tc main_v3)
    = W (Proc.devRef .tc main_v3) := by
  dsimp only [hostOps0_2]
  after_reads_simp

theorem V_taken : V m c main_v3 = taken (F := F) (m (c.tc.loc main_arg2))
    (tokens (m (c.tc.loc main_arg0)) (m (c.tc.loc main_arg1))) := by
  simp only [V, V0, List.flatten_cons, List.flatten_nil, List.append_nil]
  rw [StableHlo.after_append, StableHlo.after_append, rest_result, take_result, tokens_result, table_result]

theorem V_joined : V m c main_v21 = joined (F := F) (m (c.tc.loc main_arg3)) (m (c.tc.loc main_arg4)) (m (c.tc.loc main_arg5)) := by
  dsimp only [V, V0, hostOps0, hostOps0_1, hostOps0_2, List.flatten_cons, List.flatten_nil, List.cons_append, List.nil_append, List.append_nil]
  after_reads_simp
  rfl

theorem V_bias : V m c main_v23 = bias (F := F) (m (c.tc.loc main_arg6)) (m (c.tc.loc main_arg7)) (m (c.tc.loc main_arg8)) := by
  dsimp only [V, V0, hostOps0, hostOps0_1, hostOps0_2, List.flatten_cons, List.flatten_nil, List.cons_append, List.nil_append, List.append_nil]
  after_reads_simp
  rfl

theorem V_dense : V m c main_v24 = shapeCast S9x11 (m (c.tc.loc main_arg9) : FVec F S1x99 .f32) shapeCasts_S1x99_S9x11 := by
  dsimp only [V, V0, hostOps0, hostOps0_1, hostOps0_2, List.flatten_cons, List.flatten_nil, List.cons_append, List.nil_append, List.append_nil]
  after_reads_simp
  rfl

theorem V_query : V m c main_v25 = shapeCast S128x30x1 (m (c.tc.loc main_arg0) : IVec S128x30 32) shapeCasts_S128x30_S128x30x1 := by
  dsimp only [V, V0, hostOps0, hostOps0_1, hostOps0_2, List.flatten_cons, List.flatten_nil, List.cons_append, List.nil_append, List.append_nil]
  after_reads_simp
  rfl

theorem V_document : V m c main_v26 = shapeCast S128x1x200 (m (c.tc.loc main_arg1) : IVec S128x200 32) shapeCasts_S128x200_S128x1x200 := by
  dsimp only [V, V0, hostOps0, hostOps0_1, hostOps0_2, List.flatten_cons, List.flatten_nil, List.cons_append, List.nil_append, List.append_nil]
  after_reads_simp
  rfl

end Cert.KernelIdeal.Host

end
-- ==== Proof.KRows.lean ====
/- The arrays handed to the kernel's region, read at an index. Hand-written. -/
module

public import proofs.«01_k».proof.Proof.KHost
public import proofs.«01_k».proof.Proof.Spec
public import Idealize.ShloMosaic.Lib.Pointwise
public import Idealize.ShloMosaic.Lib.Routing.Ops
public import Idealize.ShloMosaic.Lib.Routing.OpsPair
public import Idealize.ShloMosaic.Lib.ReduceAll
public import Idealize.ShloMosaic.Lib.StableHlo.Predicate

@[expose] public section

set_option maxRecDepth 16384

noncomputable section

namespace Cert.KernelIdeal.Host

open Cert.KernelIdeal Cert.KernelIdeal.Gen Idealize.ShloMosaic Idealize.ShloMosaic.TcCoe Idealize.SL.Sem

section Tokens

variable (q : IVec S128x30 32) (d : IVec S128x200 32)

theorem tokens_query (b : Fin 128) (l : Fin 30) (n : Fin 29696) (hn : n.1 = 232 * b.1 + l.1) :
    tokens q d (ix1 n) = q (ix2 b l) := by
  have h1 : n.1 / 232 = b.1 := by omega
  have h2 : n.1 % 232 = l.1 := by omega
  pointwise [tokens]
  split_ifs <;> first | omega | simp only [h1, h2, Fin.eta]

theorem tokens_document (b : Fin 128) (l : Fin 200) (n : Fin 29696) (hn : n.1 = 232 * b.1 + (30 + l.1)) :
    tokens q d (ix1 n) = d (ix2 b l) := by
  have h1 : n.1 / 232 = b.1 := by omega
  have h2 : n.1 % 232 - 30 = l.1 := by omega
  pointwise [tokens]
  split_ifs <;> first | omega | simp only [h1, h2, Fin.eta]

/-- Every token is in the table's range where the arguments' are. -/
theorem tokens_lt (hq : ∀ b l, (q (ix2 b l)).toNat < 50000) (hd : ∀ b l, (d (ix2 b l)).toNat < 50000) (n : Fin 29696) :
    (tokens q d (ix1 n)).toNat < 50000 := by
  pointwise [tokens]
  split_ifs <;> first | exact hq _ _ | exact hd _ _ | decide

theorem starts_apply (t : IVec S29696 32) (n : Fin 29696) (h : (t (ix1 n)).toNat < 50000) (z : Fin 1) :
    starts t (ix2 n z) = t (ix1 n) := by
  pointwise [starts]
  exact Routing.wrap_of_lt _ _ (by norm_num; omega)

/-- All the rows to be taken lie in the table. -/
theorem inside_starts (t : IVec S29696 32) (h : ∀ n, (t (ix1 n)).toNat < 50000) (n : Fin 29696) :
    inside (starts t) (ix1 n) = 1#1 := by
  refine Host.reduce_andi_one _ _ _ _ _ rfl fun i => ?_
  obtain ⟨a, z, rfl⟩ : ∃ a z, i = ix2 a z := ⟨i 0, i 1, by funext x; fin_cases x <;> rfl⟩
  pointwise [starts_apply _ _ (h _)]
  have ha := h a
  generalize t (ix1 a) = x at ha
  have e1 : IntOp.cmpi .sge x 0#32 = 1#1 := by
    exact (StableHlo.Predicate.sge_iff_toNat (by omega) (by decide)).2 (Nat.zero_le _)
  have e2 : IntOp.cmpi .sle x 49999#32 = 1#1 := by
    exact (StableHlo.Predicate.sle_iff_toNat (by omega) (by decide)).2 (by show x.toNat ≤ 49999; omega)
  rw [e1, e2]; rfl

/-- A token in range takes its row of the table. -/
theorem taken_apply (table : FVec Ideal S50000x300 .f32) (t : IVec S29696 32) (h : ∀ n, (t (ix1 n)).toNat < 50000)
    (n : Fin 29696) (e : Fin 300) :
    taken (F := Ideal) table t (ix2 n e) = Spec.embed (fun a b => table (ix2 a b)) (t (ix1 n)) e := by
  pointwise [taken]
  have g : Host.gather gather_S50000x300_S29696x1_S29696x300_1_0_n_n_0_1_1300 table (starts t) (ix2 n e)
      = table (ix2 ⟨(t (ix1 n)).toNat, h n⟩ e) :=
    Routing.gather_row _ rfl rfl rfl rfl rfl table (starts t) n e ⟨(t (ix1 n)).toNat, h n⟩
      ((starts_apply t n (h n) 0).trans (by simp)) (by decide)
  rw [inside_starts t h, g]
  simp only [Spec.embed, Nat.mod_eq_of_lt (h n)]
  rfl

end Tokens

set_option maxHeartbeats 2000000 in
/-- The joined filters, tap by tap. -/
theorem joined_apply (w1 : FVec Ideal S128x300x1 .f32) (w2 : FVec Ideal S128x300x2 .f32) (w3 : FVec Ideal S128x300x3 .f32)
    (t : Fin 6) (c : Fin 128) (e : Fin 300) (j : Fin 768) (hj : j.1 = 128 * t.1 + c.1) :
    joined (F := Ideal) w1 w2 w3 (ix2 e j) = Spec.taps (fun c e s => w1 (ix3 c e s)) (fun c e s => w2 (ix3 c e s))
      (fun c e s => w3 (ix3 c e s)) t c e := by
  pointwise [joined, flat]
  split_ifs <;> first
    | (obtain rfl : t = 0 := Fin.ext (by show t.1 = 0; omega)
       exact congrArg (fun x => w1 (ix3 x e 0)) (Fin.ext (by change j.1 = 128 * 0 + c.1 at hj; change _ = c.1; dsimp only; omega)))
    | (obtain rfl : t = 1 := Fin.ext (by show t.1 = 1; omega)
       exact congrArg (fun x => w2 (ix3 x e 0)) (Fin.ext (by change j.1 = 128 * 1 + c.1 at hj; change _ = c.1; dsimp only; omega)))
    | (obtain rfl : t = 2 := Fin.ext (by show t.1 = 2; omega)
       exact congrArg (fun x => w2 (ix3 x e 1)) (Fin.ext (by change j.1 = 128 * 2 + c.1 at hj; change _ = c.1; dsimp only; omega)))
    | (obtain rfl : t = 3 := Fin.ext (by show t.1 = 3; omega)
       exact congrArg (fun x => w3 (ix3 x e 0)) (Fin.ext (by change j.1 = 128 * 3 + c.1 at hj; change _ = c.1; dsimp only; omega)))
    | (obtain rfl : t = 4 := Fin.ext (by show t.1 = 4; omega)
       exact congrArg (fun x => w3 (ix3 x e 1)) (Fin.ext (by change j.1 = 128 * 4 + c.1 at hj; change _ = c.1; dsimp only; omega)))
    | (obtain rfl : t = 5 := Fin.ext (by show t.1 = 5; omega)
       exact congrArg (fun x => w3 (ix3 x e 2)) (Fin.ext (by change j.1 = 128 * 5 + c.1 at hj; change _ = c.1; dsimp only; omega)))

theorem bias_apply (b1 b2 b3 : FVec Ideal S128 .f32) (i : Fin 3) (c : Fin 128) (z : Fin 1) (j : Fin 384)
    (hj : j.1 = 128 * i.1 + c.1) :
    bias (F := Ideal) b1 b2 b3 (ix2 z j) = Spec.shifts (fun c => b1 (ix1 c)) (fun c => b2 (ix1 c)) (fun c => b3 (ix1 c)) i c := by
  pointwise [bias]
  split_ifs <;> first
    | (obtain rfl : i = 0 := Fin.ext (by show i.1 = 0; omega)
       exact congrArg (fun x => b1 (ix1 x)) (Fin.ext (by change j.1 = 128 * 0 + c.1 at hj; change _ = c.1; dsimp only; omega)))
    | (obtain rfl : i = 1 := Fin.ext (by show i.1 = 1; omega)
       exact congrArg (fun x => b2 (ix1 x)) (Fin.ext (by change j.1 = 128 * 1 + c.1 at hj; change _ = c.1; dsimp only; omega)))
    | (obtain rfl : i = 2 := Fin.ext (by show i.1 = 2; omega)
       exact congrArg (fun x => b3 (ix1 x)) (Fin.ext (by change j.1 = 128 * 2 + c.1 at hj; change _ = c.1; dsimp only; omega)))

end Cert.KernelIdeal.Host
end
-- ==== Proof.KRun.lean ====
/- The kernel's run read: its result vector is the score of each document. Hand-written. -/
module

public import proofs.«01_k».proof.Proof.KOut
public import proofs.«01_k».proof.Proof.KRows
public import Idealize.ShloMosaic.Lib.Pipeline.ValueKit
public import Idealize.ShloMosaic.Lib.Claim

@[expose] public section

set_option maxRecDepth 16384

noncomputable section

namespace Cert.KernelIdeal.Host

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Which block each window reads or writes at a point: the first three inputs and the output move with it. -/
theorem idx : ∀ t : Fin cfg0.N, win0_0.index t = ![t.1, 0] ∧ win0_1.index t = ![t.1, 0, 0] ∧ win0_2.index t = ![t.1, 0, 0] ∧
    win0_3.index t = ![0, 0] ∧ win0_4.index t = ![0, 0] ∧ win0_5.index t = ![0, 0] ∧ win0_6.index t = ![t.1, 0, 0] := by
  decide +kernel

/-- The document of a point. -/
def doc (t : Fin cfg0.N) : Fin 128 := ⟨t.1, lt_of_lt_of_eq t.2 N_0⟩

theorem block0 (t : Fin cfg0.N) (l : Fin 232) (e : Fin 300) :
    iblk m c 0 t (ix2 l e) = V m c main_v3 (ix2 ⟨232 * (doc t).1 + l.1, by omega⟩ e) := by
  refine congrArg (V m c main_v3) (funext fun a => Fin.ext ?_)
  fin_cases a
  · blk_simp [idx t]
    show t.1 * 232 + l.1 = 232 * t.1 + l.1
    omega
  · blk_simp [idx t]
    rfl

theorem block1 (t : Fin cfg0.N) (l : Fin 30) :
    iblk m c 1 t (ix3 0 l 0) = V m c main_v25 (ix3 (doc t) l 0) := by
  blk_ext [iblk, idx t, doc]

theorem block2 (t : Fin cfg0.N) (l : Fin 200) :
    iblk m c 2 t (ix3 0 0 l) = V m c main_v26 (ix3 (doc t) 0 l) := by
  blk_ext [iblk, idx t, doc]

theorem block3 (t : Fin cfg0.N) (e : Fin 300) (j : Fin 768) : iblk m c 3 t (ix2 e j) = V m c main_v21 (ix2 e j) := by
  blk_ext [iblk, idx t]

theorem block4 (t : Fin cfg0.N) (z : Fin 1) (j : Fin 384) : iblk m c 4 t (ix2 z j) = V m c main_v23 (ix2 z j) := by
  blk_ext [iblk, idx t]

theorem block5 (t : Fin cfg0.N) (a : Fin 9) (j : Fin 11) : iblk m c 5 t (ix2 a j) = V m c main_v24 (ix2 a j) := by
  blk_ext [iblk, idx t]

/-- The table's rows, the filters, the biases and the dense weights by plain indices. -/
abbrev table (a : Fin 50000) (b : Fin 300) : EReal := (m (c.tc.loc main_arg2) : Vec Ideal S50000x300 .f32) (ix2 a b)
abbrev query (b : Fin 128) (l : Fin 30) : BitVec 32 := (m (c.tc.loc main_arg0) : IVec S128x30 32) (ix2 b l)
abbrev document (b : Fin 128) (l : Fin 200) : BitVec 32 := (m (c.tc.loc main_arg1) : IVec S128x200 32) (ix2 b l)
abbrev filterTaps : Fin 6 → Fin 128 → Fin 300 → EReal :=
  Spec.taps (fun c' e s => (m (c.tc.loc main_arg3) : Vec Ideal S128x300x1 .f32) (ix3 c' e s))
    (fun c' e s => (m (c.tc.loc main_arg4) : Vec Ideal S128x300x2 .f32) (ix3 c' e s))
    (fun c' e s => (m (c.tc.loc main_arg5) : Vec Ideal S128x300x3 .f32) (ix3 c' e s))
abbrev biasRows : Fin 3 → Fin 128 → EReal :=
  Spec.shifts (fun c' => (m (c.tc.loc main_arg6) : Vec Ideal S128 .f32) (ix1 c'))
    (fun c' => (m (c.tc.loc main_arg7) : Vec Ideal S128 .f32) (ix1 c'))
    (fun c' => (m (c.tc.loc main_arg8) : Vec Ideal S128 .f32) (ix1 c'))
abbrev denseRow (n : Fin 99) : EReal := (m (c.tc.loc main_arg9) : Vec Ideal S1x99 .f32) (ix2 0 n)

/-- A document's score, from the arguments. -/
def value (b : Fin 128) : EReal :=
  Spec.result (table m c) (filterTaps m c) (biasRows m c) (Spec.dense (denseRow m c)) (query m c b) (document m c b)

/-- All the tokens are rows of the table. -/
def InRange : Prop := (∀ b l, (query m c b l).toNat < 50000) ∧ ∀ b l, (document m c b l).toNat < 50000

theorem qrows_block (h : InRange m c) (t : Fin cfg0.N) :
    Body.qrows (iblk m c 0 t) = fun l => Spec.embed (table m c) (query m c (doc t) l) := by
  funext l e
  rw [Body.qrows, block0, V_taken, taken_apply _ _ (tokens_lt _ _ h.1 h.2), tokens_query _ _ (doc t) l _ rfl]

theorem drows_block (h : InRange m c) (t : Fin cfg0.N) :
    Body.drows (iblk m c 0 t) = fun l => Spec.embed (table m c) (document m c (doc t) l) := by
  funext l e
  rw [Body.drows, block0, V_taken, taken_apply _ _ (tokens_lt _ _ h.1 h.2), tokens_document _ _ (doc t) l _ rfl]

theorem filters_block (t : Fin cfg0.N) : Body.filters (iblk m c 3 t) = filterTaps m c := by
  funext k a e
  rw [Body.filters, block3, V_joined, joined_apply _ _ _ k a e _ rfl]

theorem biases_block (t : Fin cfg0.N) : Body.biases (iblk m c 4 t) = biasRows m c := by
  funext k a
  rw [Body.biases, block4, V_bias, bias_apply _ _ _ k a _ _ rfl]

theorem square_apply (r : Vec Ideal S1x99 .f32) (a : Fin 9) (k : Fin 11) :
    shapeCast S9x11 r shapeCasts_S1x99_S9x11 (ix2 a k) = r (ix2 0 ⟨11 * a.1 + k.1, by omega⟩) := by
  pointwise []
  simp only [Nat.mul_comm]

theorem weights_block (t : Fin cfg0.N) : Body.weights (iblk m c 5 t) = Spec.dense (denseRow m c) := by
  funext i j k
  rw [Body.weights, block5, V_dense]
  exact square_apply _ _ _

theorem query_block (t : Fin cfg0.N) (l : Fin 30) : iblk m c 1 t (ix3 0 l 0) = query m c (doc t) l := by
  rw [block1, V_query]
  pointwise []

theorem document_block (t : Fin cfg0.N) (l : Fin 200) : iblk m c 2 t (ix3 0 0 l) = document m c (doc t) l := by
  rw [block2, V_document]
  pointwise []

/-- A point's output element. -/
theorem out_block (h : InRange m c) (t : Fin cfg0.N) (x y z : Fin 1) :
    out0_6 (F := Ideal) (iblk m c 0 t) (iblk m c 1 t) (iblk m c 2 t) (iblk m c 3 t) (iblk m c 4 t) (iblk m c 5 t) (ix3 x y z)
      = value m c (doc t) := by
  rw [Body.out_apply, qrows_block m c h, drows_block m c h, filters_block, biases_block, weights_block]
  simp only [query_block, document_block]
  rfl

/-- The region's array after the run. -/
theorem region (h : InRange m c) :
    (dats m 0 c).arrAt 6 cfg0.N = (fun i => value m c (i 0) : Vec Ideal S128x1x1 .f32) := by
  refine (dats m 0 c).arrAt_eq_of_covers 6 _ (by decide +kernel) fun t hf y => ?_
  blk_simp
  rw [after0_6]
  obtain ⟨x, y, z, rfl⟩ : ∃ a b c, y = ix3 a b c := ⟨y 0, y 1, y 2, by funext x; fin_cases x <;> rfl⟩
  rw [out_block m c h]
  refine congrArg (value m c) (Fin.ext ?_)
  blk_simp [idx t, doc]

/-- The last host line drops the region's array's axes of length one. -/
theorem tail : Pipeline.afterTail₀ cfgs (dats m) 0 (V0 m) [hostOps1] c main_v28
    = shapeCast S128 ((dats m 0 c).arrAt 6 cfg0.N : Vec Ideal S128x1x1 .f32) shapeCasts_S128x1x1_S128 := by
  have e := Pipeline.withArrays_arr spec0 (by decide) c (V0 m c) (fun w => (dats m 0 c).arrAt w cfg0.N) 6
  unfold Pipeline.afterTail₀
  dsimp only [hostOps1, List.flatten_cons, List.flatten_nil, List.append_nil]
  generalize hU : Pipeline.withArrays (cfgs 0).spec c (V0 m c) (fun w => (dats m 0 c).arrAt w (cfgs 0).N) = U
  have e' : U (Proc.devRef .tc main_v27) = (dats m 0 c).arrAt 6 cfg0.N := by rw [← hU]; exact e
  after_reads_simp
  rw [e']
  rfl

variable (ρ : Dev nD → PrngReg)

/-- The result vector at the scores, the arguments unchanged. -/
theorem run (h : ∀ c, InRange m c) : θ_run (defs (F := Ideal)) (onTc (τ := τ) (main (F := Ideal))) ⟨m, fun _ => 0, ρ⟩ fun r => ∀ c : Dev nD,
    r.2.mem ((c.tc : Thread nD τ).loc main_v28) = (fun i => value m c (i 0) : Vec Ideal S128 .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) := by
  run_from Gen.run_main m ρ
  · rw [tail, region m c (h c)]
    funext i
    obtain ⟨i, rfl⟩ : ∃ a, i = ix1 a := ⟨i 0, by funext x; fin_cases x; rfl⟩
    pointwise []
  · exact W_main_arg0 m (dats m) c
  · exact W_main_arg1 m (dats m) c
  · exact W_main_arg2 m (dats m) c
  · exact W_main_arg3 m (dats m) c
  · exact W_main_arg4 m (dats m) c
  · exact W_main_arg5 m (dats m) c
  · exact W_main_arg6 m (dats m) c
  · exact W_main_arg7 m (dats m) c
  · exact W_main_arg8 m (dats m) c
  · exact W_main_arg9 m (dats m) c

end Cert.KernelIdeal.Host

end
-- ==== Proof.Math.lean ====
/- The arithmetic the two programs differ by: the Gaussian's two spellings, finiteness, and the dense layer's order. Hand-written. -/
module

public import proofs.«01_k».proof.Proof.Spec

@[expose] public section

noncomputable section

namespace Cert.Spec

open Idealize.ShloMosaic Idealize.SL.Sem

/-- A power of two as an exponential, the constant folded into the exponent. -/
theorem exp2_scaled (t : EReal) (a : ℝ) (ha : 0 < a) :
    Ideal.exp2 (t * t * ((-((Real.log 2)⁻¹ * a) : ℝ) : EReal)) = Ideal.exp (-(t * t) * (a : EReal)) := by
  have hl : 0 < Real.log 2 := Real.log_pos (by norm_num)
  have hn : (-((Real.log 2)⁻¹ * a) : ℝ) < 0 := by have := inv_pos.mpr hl; nlinarith [mul_pos this ha]
  induction t using EReal.rec with
  | bot =>
    rw [EReal.bot_mul_bot, EReal.top_mul_coe_of_neg hn, EReal.neg_top, EReal.bot_mul_coe_of_pos ha, Ideal.exp2_bot, Ideal.exp_bot]
  | top =>
    rw [EReal.top_mul_top, EReal.top_mul_coe_of_neg hn, EReal.neg_top, EReal.bot_mul_coe_of_pos ha, Ideal.exp2_bot, Ideal.exp_bot]
  | coe r =>
    rw [← EReal.coe_mul, ← EReal.coe_mul, ← EReal.coe_neg, ← EReal.coe_mul, Ideal.exp2_coe, Ideal.exp_coe]
    congr 1
    refine (Real.rpow_def_of_pos (by norm_num) _).trans ?_
    congr 1
    field_simp

/-- A bin's width, as the reference divides it out: the narrow one first. -/
def width (k : Fin 11) : EReal :=
  if k.1 < 1 then Ideal.div 1 (Ideal.ofBits .f32 0x447A0000#32) else Ideal.div 1 (Ideal.ofBits .f32 0x41200000#32)

theorem word_two : Ideal.ofBits .f32 0x40000000#32 = ((2 : ℝ) : EReal) := by
  simp [Ideal.ofBits, Ideal.ieee, -EReal.coe_mul]
  norm_num

theorem word_ten : Ideal.ofBits .f32 0x41200000#32 = ((10 : ℝ) : EReal) := by
  simp [Ideal.ofBits, Ideal.ieee, -EReal.coe_mul]
  norm_num

theorem word_thousand : Ideal.ofBits .f32 0x447A0000#32 = ((1000 : ℝ) : EReal) := by
  simp [Ideal.ofBits, Ideal.ieee, -EReal.coe_mul]
  norm_num

/-- The cut-off of the logarithm. -/
theorem word_floor : Ideal.ofBits .f32 0x2EDBE6FF#32 = ((14411519 / 2 ^ 57 : ℝ) : EReal) := by
  simp [Ideal.ofBits, Ideal.ieee, -EReal.coe_mul]
  norm_num

/-- The logarithm's scale. -/
theorem word_scale : Ideal.ofBits .f32 0x3C23D70A#32 = ((10737418 / 2 ^ 30 : ℝ) : EReal) := by
  simp [Ideal.ofBits, Ideal.ieee, -EReal.coe_mul]
  norm_num

theorem two_widths (k : Fin 11) :
    Ideal.ofBits .f32 0x40000000#32 * width k * width k = (((rate k)⁻¹ : ℝ) : EReal) := by
  have e : width k = (((if k = 0 then 1 / 1000 else 1 / 10) : ℝ) : EReal) := by
    by_cases hk : k = 0
    · subst hk
      rw [width, if_pos (by decide), word_thousand, Ideal.div_coe (by norm_num), one_mul, if_pos rfl]
    · rw [width, if_neg (by omega), word_ten, Ideal.div_coe (by norm_num), one_mul, if_neg hk]
  rw [e, word_two, ← EReal.coe_mul, ← EReal.coe_mul, rate]
  congr 1
  split_ifs <;> norm_num

theorem rate_pos (k : Fin 11) : 0 < rate k := by
  unfold rate
  split_ifs <;> norm_num

/-- The reference's Gaussian is the kernel's. -/
theorem gauss_eq (k : Fin 11) (t : EReal) :
    Ideal.exp (Ideal.div (-(t * t)) (Ideal.ofBits .f32 0x40000000#32 * width k * width k)) = gauss k t := by
  rw [two_widths, Ideal.div_coe (inv_ne_zero (rate_pos k).ne'), one_div, inv_inv, gauss, exp2_scaled t _ (rate_pos k)]

/-- A sum of real numbers is real, and is their sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem mask_real (t : BitVec 32) : ∃ r : ℝ, mask t = r := by
  unfold mask
  split_ifs
  · exact ⟨1, rfl⟩
  · exact ⟨0, rfl⟩

theorem gauss_real (k : Fin 11) (t : EReal) : ∃ r : ℝ, gauss k t = r := by
  rw [gauss, exp2_scaled t _ (rate_pos k)]
  induction t using EReal.rec with
  | bot => exact ⟨0, by rw [EReal.bot_mul_bot, EReal.neg_top, EReal.bot_mul_coe_of_pos (rate_pos k), Ideal.exp_bot]; rfl⟩
  | top => exact ⟨0, by rw [EReal.top_mul_top, EReal.neg_top, EReal.bot_mul_coe_of_pos (rate_pos k), Ideal.exp_bot]; rfl⟩
  | coe r => exact ⟨_, by rw [← EReal.coe_mul, ← EReal.coe_neg, ← EReal.coe_mul, Ideal.exp_coe]⟩

/-- A bin is finite whatever the cosines are. -/
theorem bin_real (x w : Fin 30 → Fin 200 → EReal) (hw : ∀ q d, ∃ r : ℝ, w q d = r) (q : Fin 30) (k : Fin 11) :
    ∃ r : ℝ, bin x w q k = r := by
  choose g hg using fun d => gauss_real k (x q d - mu k)
  choose v hv using fun d => hw q d
  refine ⟨∑ d, g d * v d, ?_⟩
  rw [bin, ← coe_sum]
  exact Finset.sum_congr rfl fun d _ => by rw [hg, hv, EReal.coe_mul]

theorem lg_real (x w : Fin 30 → Fin 200 → EReal) (hw : ∀ q d, ∃ r : ℝ, w q d = r) (q : Fin 30) (k : Fin 11) :
    ∃ r : ℝ, lg x w q k = r := by
  obtain ⟨b, hb⟩ := bin_real x w hw q k
  have hp : ¬ max b (14411519 / 2 ^ 57) ≤ 0 := not_le.mpr (lt_max_of_lt_right (by norm_num))
  refine ⟨Real.log (max b (14411519 / 2 ^ 57)) * (10737418 / 2 ^ 30), ?_⟩
  rw [lg, hb, word_floor, word_scale, ← EReal.coe_strictMono.monotone.map_max, Ideal.log_coe, if_neg hp, EReal.coe_mul]

/-- The dense layer's input by pair and bin. -/
def place : Fin 3 × Fin 3 × Fin 11 ≃ Fin 99 where
  toFun p := ⟨11 * (3 * p.1.1 + p.2.1.1) + p.2.2.1, by omega⟩
  invFun n := (⟨n.1 / 33, by omega⟩, ⟨n.1 / 11 % 3, by omega⟩, ⟨n.1 % 11, by omega⟩)
  left_inv p := by
    refine Prod.ext (Fin.ext ?_) (Prod.ext (Fin.ext ?_) (Fin.ext ?_)) <;> dsimp only <;> omega
  right_inv n := Fin.ext (by dsimp only; omega)

/-- The dense layer after the query's sum is the query's sum after the dense layer, all finite. -/
theorem dense_order (L : Fin 3 → Fin 3 → Fin 30 → Fin 11 → EReal) (M : Fin 30 → EReal) (r : Fin 99 → EReal)
    (hL : ∀ i j q k, ∃ a : ℝ, L i j q k = a) (hM : ∀ q, ∃ a : ℝ, M q = a) (hr : ∀ n, ∃ a : ℝ, r n = a) :
    ∑ n : Fin 99, (∑ q, L ⟨n.1 / 33, by omega⟩ ⟨n.1 / 11 % 3, by omega⟩ q ⟨n.1 % 11, by omega⟩ * M q) * r n
      = ∑ q, (∑ i, ∑ j, ∑ k, L i j q k * dense r i j k) * M q := by
  choose L' hL using hL
  choose M' hM using hM
  choose r' hr using hr
  have e : ∑ n : Fin 99, (∑ q, L' (place.symm n).1 (place.symm n).2.1 q (place.symm n).2.2 * M' q) * r' n
      = ∑ q, (∑ i, ∑ j, ∑ k, L' i j q k * r' (place (i, j, k))) * M' q := by
    rw [← place.sum_comp]
    simp only [Equiv.symm_apply_apply, Fintype.sum_prod_type, Finset.sum_mul]
    rw [Finset.sum_comm (s := (Finset.univ : Finset (Fin 30)))]
    refine Finset.sum_congr rfl fun i _ => ?_
    rw [Finset.sum_comm (s := (Finset.univ : Finset (Fin 30)))]
    refine Finset.sum_congr rfl fun j _ => ?_
    rw [Finset.sum_comm (s := (Finset.univ : Finset (Fin 30)))]
    exact Finset.sum_congr rfl fun k _ => Finset.sum_congr rfl fun q _ => by ring
  have e' := congrArg (fun a : ℝ => (a : EReal)) e
  simp only [← coe_sum, EReal.coe_mul] at e'
  simp only [hL, hM, hr, dense]
  exact e'

end Cert.Spec

end
-- ==== Proof.RRows.lean ====
/- The reference's gathers and pads read at an index: the embedded texts. Hand-written. -/
module

public import proofs.«01_k».proof.Proof.Gen.ReferenceIdeal.Read
public import proofs.«01_k».proof.Proof.Spec
public import Idealize.ShloMosaic.Lib.Pointwise
public import Idealize.ShloMosaic.Lib.Routing.OpsPair
public import Idealize.ShloMosaic.Lib.StableHlo.Predicate

@[expose] public section

set_option maxRecDepth 16384

noncomputable section

namespace Cert.ReferenceIdeal.Rows

open Cert.ReferenceIdeal Cert.ReferenceIdeal.Gen Cert.ReferenceIdeal.Read Idealize.ShloMosaic Idealize.SL.Sem

/-- Rows of a table taken at a matrix of row numbers. -/
abbrev rowDims (N E R C : ℕ) (wf : GatherDims.WF ⟨2, ![N, E]⟩ ⟨3, ![R, C, 1]⟩ ⟨3, ![R, C, E]⟩ [2] [0] [] [0] [] 2 ![1, E]) :
    GatherDims ⟨2, ![N, E]⟩ ⟨3, ![R, C, 1]⟩ ⟨3, ![R, C, E]⟩ where
  offsetDims := [2]
  collapsedSliceDims := [0]
  operandBatchingDims := []
  startIndicesBatchingDims := []
  startIndexMap := [0]
  indexVectorDim := 2
  sliceSizes := ![1, E]
  wf := wf

/-- An entry of such rows, where the row number lies in the table. -/
theorem rows_apply {N E R C : ℕ} (hN : N < 2 ^ 31)
    (wf : GatherDims.WF ⟨2, ![N, E]⟩ ⟨3, ![R, C, 1]⟩ ⟨3, ![R, C, E]⟩ [2] [0] [] [0] [] 2 ![1, E])
    (x : (⟨2, ![N, E]⟩ : Shape).Idx → EReal) (idx : IVec ⟨3, ![R, C, 1]⟩ 32) (a : Fin R) (b : Fin C) (e : Fin E)
    (n : Fin N) (hn : (idx (ix3 a b 0)).toNat = n.1) :
    Host.gather (rowDims N E R C wf) x idx (ix3 a b e) = x (ix2 n e) := by
  unfold Host.gather
  congr 1
  funext k
  refine Fin.ext ?_
  match k with
  | ⟨0, _⟩ =>
    show (rowDims N E R C wf).start (ix3 a b e) idx 0 + (rowDims N E R C wf).batchCoord (ix3 a b e) 0
      + (rowDims N E R C wf).offCoord (ix3 a b e) 0 = n.1
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E R C wf).startIndexMap from List.mem_singleton.mpr rfl)]
    have hsi : (rowDims N E R C wf).siIdx (ix3 a b e) ⟨List.idxOf (0 : Fin 2) (rowDims N E R C wf).startIndexMap,
        List.idxOf_lt_length_iff.2 (List.mem_singleton.mpr rfl)⟩ = ix3 a b 0 := by
      funext b; refine Fin.ext ?_
      match b with
      | ⟨0, _⟩ => rfl
      | ⟨1, _⟩ => rfl
      | ⟨2, _⟩ => rfl
    rw [hsi]
    have hl := n.2
    show min (idx (ix3 a b 0)).toInt.toNat (N - 1) = n.1
    rw [BitVec.toInt_eq_toNat_of_lt (by omega), hn]
    simp only [Int.toNat_natCast]
    omega
  | ⟨1, _⟩ =>
    show (rowDims N E R C wf).start (ix3 a b e) idx 1 + (rowDims N E R C wf).batchCoord (ix3 a b e) 1
      + (rowDims N E R C wf).offCoord (ix3 a b e) 1 = e.1
    rw [GatherDims.batchCoord_eq_zero _ _ _ List.not_mem_nil]
    unfold GatherDims.start
    rw [dif_neg (show (1 : Fin 2) ∉ (rowDims N E R C wf).startIndexMap from
      fun h => Nat.one_ne_zero (congrArg Fin.val (List.mem_singleton.mp h)))]
    simp only [Nat.add_zero, Nat.zero_add]
    rfl

/-- A row past the end is the padding. -/
theorem padded {n : ℕ} (E : Fin n → Fin 300 → EReal) (l : ℕ) (e : Fin 300) (z : EReal) (hz : z = 0) (p : ∀ _ : l < n, l < n) :
    (if h : l < n then E ⟨l, p h⟩ e else z) = Spec.row E l e := by
  rw [hz]; rfl

theorem word_zero : (FloatOps.sitofp .f32 (0#32) : Ideal .f32) = 0 := by
  show (((0#32 : BitVec 32).toInt : ℝ) : EReal) = 0
  simp

section Query

variable (x0 : IVec S128x30 32) (x2 : Vec Ideal S50000x300 .f32)

theorem v35_apply (b : Fin 128) (l : Fin 30) (hb : (x0 (ix2 b l)).toNat < 50000) (z : Fin 1) :
    val_main_v35 (F := Ideal) x0 (ix3 b l z) = x0 (ix2 b l) := by
  pointwise [val_main_v35, val_main_v34, val_main_v31, val_main_v33, val_main_v30, val_main_v32, val_main_c_15, val_main_c_16]
  exact Routing.wrap_of_lt _ _ (by norm_num; omega)

/-- The query's embedded rows. -/
abbrev qemb (b : Fin 128) (l : Fin 30) : Fin 300 → EReal := Spec.embed (fun a b => x2 (ix2 a b)) (x0 (ix2 b l))

variable (h : ∀ b l, (x0 (ix2 b l)).toNat < 50000)
include h

theorem v36_apply (b : Fin 128) (l : Fin 30) (e : Fin 300) :
    val_main_v36 (F := Ideal) x0 x2 (ix3 b l e) = qemb x0 x2 b l e := by
  refine (rows_apply (by decide) _ x2 _ b l e ⟨(x0 (ix2 b l)).toNat, h b l⟩ (by rw [v35_apply _ _ _ (h b l)])).trans ?_
  simp only [qemb, Spec.embed, Nat.mod_eq_of_lt (h b l)]

theorem v44_apply (b : Fin 128) (l : Fin 30) (e : Fin 300) :
    val_main_v44 (F := Ideal) x0 x2 (ix3 b l e) = Spec.row (qemb x0 x2 b) l e := by
  pointwise [val_main_v44, v36_apply x0 x2 h]
  simp only [Spec.row, dif_pos l.2, Fin.eta]

theorem v53_apply (b : Fin 128) (l : Fin 31) (e : Fin 300) :
    val_main_v53 (F := Ideal) x0 x2 (ix3 b l e) = Spec.row (qemb x0 x2 b) l e := by
  pointwise [val_main_v53, v36_apply x0 x2 h, val_main_call2_v0, val_main_c_21]
  exact padded _ _ _ _ word_zero _

theorem v69_apply (b : Fin 128) (l : Fin 32) (e : Fin 300) :
    val_main_v69 (F := Ideal) x0 x2 (ix3 b l e) = Spec.row (qemb x0 x2 b) l e := by
  pointwise [val_main_v69, v36_apply x0 x2 h, val_main_call4_v0, val_main_c_23]
  exact padded _ _ _ _ word_zero _

end Query

section Document

variable (x1 : IVec S128x200 32) (x2 : Vec Ideal S50000x300 .f32)

theorem v42_apply (b : Fin 128) (l : Fin 200) (hb : (x1 (ix2 b l)).toNat < 50000) (z : Fin 1) :
    val_main_v42 (F := Ideal) x1 (ix3 b l z) = x1 (ix2 b l) := by
  pointwise [val_main_v42, val_main_v41, val_main_v38, val_main_v40, val_main_v37, val_main_v39, val_main_c_17, val_main_c_18]
  exact Routing.wrap_of_lt _ _ (by norm_num; omega)

/-- The document's embedded rows. -/
abbrev demb (b : Fin 128) (l : Fin 200) : Fin 300 → EReal := Spec.embed (fun a b => x2 (ix2 a b)) (x1 (ix2 b l))

variable (h : ∀ b l, (x1 (ix2 b l)).toNat < 50000)
include h

theorem v43_apply (b : Fin 128) (l : Fin 200) (e : Fin 300) :
    val_main_v43 (F := Ideal) x1 x2 (ix3 b l e) = demb x1 x2 b l e := by
  refine (rows_apply (by decide) _ x2 _ b l e ⟨(x1 (ix2 b l)).toNat, h b l⟩ (by rw [v42_apply _ _ _ (h b l)])).trans ?_
  simp only [demb, Spec.embed, Nat.mod_eq_of_lt (h b l)]

theorem v94_apply (b : Fin 128) (l : Fin 200) (e : Fin 300) :
    val_main_v94 (F := Ideal) x1 x2 (ix3 b l e) = Spec.row (demb x1 x2 b) l e := by
  pointwise [val_main_v94, v43_apply x1 x2 h]
  simp only [Spec.row, dif_pos l.2, Fin.eta]

theorem v103_apply (b : Fin 128) (l : Fin 201) (e : Fin 300) :
    val_main_v103 (F := Ideal) x1 x2 (ix3 b l e) = Spec.row (demb x1 x2 b) l e := by
  pointwise [val_main_v103, v43_apply x1 x2 h, val_main_call8_v0, val_main_c_27]
  exact padded _ _ _ _ word_zero _

theorem v119_apply (b : Fin 128) (l : Fin 202) (e : Fin 300) :
    val_main_v119 (F := Ideal) x1 x2 (ix3 b l e) = Spec.row (demb x1 x2 b) l e := by
  pointwise [val_main_v119, v43_apply x1 x2 h, val_main_call10_v0, val_main_c_29]
  exact padded _ _ _ _ word_zero _

end Document

end Cert.ReferenceIdeal.Rows

end
-- ==== Proof.RGram.lean ====
/- The reference's rectified convolutions and their normalised rows read at an index. Hand-written. -/
module

public import proofs.«01_k».proof.Proof.RRows
public import proofs.«01_k».proof.Proof.Spec
public import Idealize.ShloMosaic.Lib.Pointwise

@[expose] public section

set_option maxRecDepth 16384

noncomputable section

namespace Cert.ReferenceIdeal.Rows

open Cert.ReferenceIdeal Cert.ReferenceIdeal.Gen Cert.ReferenceIdeal.Read Idealize.ShloMosaic Idealize.SL.Sem

variable (x0 : IVec S128x30 32) (x1 : IVec S128x200 32) (x2 : Vec Ideal S50000x300 .f32) (x3 : Vec Ideal S128x300x1 .f32)
  (x4 : Vec Ideal S128x300x2 .f32) (x5 : Vec Ideal S128x300x3 .f32) (x6 x7 x8 : Vec Ideal S128 .f32)

/-- The six taps of the arguments' filters. -/
abbrev W : Fin 6 → Fin 128 → Fin 300 → EReal :=
  Spec.taps (fun c e s => x3 (ix3 c e s)) (fun c e s => x4 (ix3 c e s)) (fun c e s => x5 (ix3 c e s))

/-- The arguments' biases. -/
abbrev B : Fin 3 → Fin 128 → EReal := Spec.shifts (fun c => x6 (ix1 c)) (fun c => x7 (ix1 c)) (fun c => x8 (ix1 c))

section Query

variable (h : ∀ b l, (x0 (ix2 b l)).toNat < 50000)
include h

theorem v52_apply (b : Fin 128) (l : Fin 30) (c : Fin 128) :
    val_main_v52 (F := Ideal) x0 x2 x3 x6 (ix3 b l c) = Spec.gram (qemb x0 x2 b) (W x3 x4 x5) (B x6 x7 x8) 0 l c := by
  pointwise [val_main_v52, val_main_v51, val_main_v50, val_main_v49, val_main_v48, val_main_v47, val_main_v46, val_main_v45,
    val_main_cst_20, val_main_call1_v0, val_main_call1_cst, v44_apply x0 x2 h]
  rfl

theorem v68_apply (b : Fin 128) (l : Fin 30) (c : Fin 128) :
    val_main_v68 (F := Ideal) x0 x2 x4 x7 (ix3 b l c) = Spec.gram (qemb x0 x2 b) (W x3 x4 x5) (B x6 x7 x8) 1 l c := by
  pointwise [val_main_v68, val_main_v67, val_main_v66, val_main_v65, val_main_v64, val_main_v63, val_main_v62, val_main_v61,
    val_main_v60, val_main_v59, val_main_v58, val_main_v57, val_main_v56, val_main_v55, val_main_v54, val_main_cst_22,
    val_main_call3_v0, val_main_call3_cst, v53_apply x0 x2 h]
  simp only [Nat.add_comm _ l.1]
  rfl

theorem v89_apply (b : Fin 128) (l : Fin 30) (c : Fin 128) :
    val_main_v89 (F := Ideal) x0 x2 x5 x8 (ix3 b l c) = Spec.gram (qemb x0 x2 b) (W x3 x4 x5) (B x6 x7 x8) 2 l c := by
  pointwise [val_main_v89, val_main_v88, val_main_v87, val_main_v86, val_main_v85, val_main_v84, val_main_v83, val_main_v82,
    val_main_v81, val_main_v80, val_main_v79, val_main_v78, val_main_v77, val_main_v76, val_main_v75, val_main_v74, val_main_v73,
    val_main_v72, val_main_v71, val_main_v70, val_main_cst_24, val_main_call5_v0, val_main_call5_cst, v69_apply x0 x2 h]
  simp only [Nat.add_comm _ l.1]
  rfl

/-- The three of them, stacked. -/
theorem v93_apply (i : Fin 3) (b : Fin 128) (l : Fin 30) (c : Fin 128) :
    val_main_v93 (F := Ideal) x0 x2 x3 x4 x5 x6 x7 x8 (ix4 i b l c) = Spec.gram (qemb x0 x2 b) (W x3 x4 x5) (B x6 x7 x8) i l c := by
  pointwise [val_main_v93, val_main_v90, val_main_v91, val_main_v92, v52_apply x0 x2 x3 x4 x5 x6 x7 x8 h,
    v68_apply x0 x2 x3 x4 x5 x6 x7 x8 h, v89_apply x0 x2 x3 x4 x5 x6 x7 x8 h]
  fin_cases i <;> rfl

/-- The normalised rows. -/
theorem v148_apply (i : Fin 3) (b : Fin 128) (l : Fin 30) (c : Fin 128) :
    val_main_v148 (F := Ideal) x0 x2 x3 x4 x5 x6 x7 x8 (ix4 i b l c)
      = Spec.unit (Spec.gram (qemb x0 x2 b) (W x3 x4 x5) (B x6 x7 x8) i) l c := by
  pointwise [val_main_v148, val_main_v147, val_main_v146, val_main_v145, val_main_cst_31, val_main_v144, val_main_call12_v2,
    val_main_call12_v1, val_main_call12_v0, val_main_call12_cst, v93_apply x0 x2 x3 x4 x5 x6 x7 x8 h]
  rfl

end Query

section Document

variable (h : ∀ b l, (x1 (ix2 b l)).toNat < 50000)
include h

theorem v102_apply (b : Fin 128) (l : Fin 200) (c : Fin 128) :
    val_main_v102 (F := Ideal) x1 x2 x3 x6 (ix3 b l c) = Spec.gram (demb x1 x2 b) (W x3 x4 x5) (B x6 x7 x8) 0 l c := by
  pointwise [val_main_v102, val_main_v101, val_main_v100, val_main_v99, val_main_v98, val_main_v97, val_main_v96, val_main_v95,
    val_main_cst_26, val_main_call7_v0, val_main_call7_cst, v94_apply x1 x2 h]
  rfl

theorem v118_apply (b : Fin 128) (l : Fin 200) (c : Fin 128) :
    val_main_v118 (F := Ideal) x1 x2 x4 x7 (ix3 b l c) = Spec.gram (demb x1 x2 b) (W x3 x4 x5) (B x6 x7 x8) 1 l c := by
  pointwise [val_main_v118, val_main_v117, val_main_v116, val_main_v115, val_main_v114, val_main_v113, val_main_v112,
    val_main_v111, val_main_v110, val_main_v109, val_main_v108, val_main_v107, val_main_v106, val_main_v105, val_main_v104,
    val_main_cst_28, val_main_call9_v0, val_main_call9_cst, v103_apply x1 x2 h]
  simp only [Nat.add_comm _ l.1]
  rfl

theorem v139_apply (b : Fin 128) (l : Fin 200) (c : Fin 128) :
    val_main_v139 (F := Ideal) x1 x2 x5 x8 (ix3 b l c) = Spec.gram (demb x1 x2 b) (W x3 x4 x5) (B x6 x7 x8) 2 l c := by
  pointwise [val_main_v139, val_main_v138, val_main_v137, val_main_v136, val_main_v135, val_main_v134, val_main_v133,
    val_main_v132, val_main_v131, val_main_v130, val_main_v129, val_main_v128, val_main_v127, val_main_v126, val_main_v125,
    val_main_v124, val_main_v123, val_main_v122, val_main_v121, val_main_v120, val_main_cst_30, val_main_call11_v0,
    val_main_call11_cst, v119_apply x1 x2 h]
  simp only [Nat.add_comm _ l.1]
  rfl

/-- The three of them, stacked. -/
theorem v143_apply (i : Fin 3) (b : Fin 128) (l : Fin 200) (c : Fin 128) :
    val_main_v143 (F := Ideal) x1 x2 x3 x4 x5 x6 x7 x8 (ix4 i b l c) = Spec.gram (demb x1 x2 b) (W x3 x4 x5) (B x6 x7 x8) i l c := by
  pointwise [val_main_v143, val_main_v140, val_main_v141, val_main_v142, v102_apply x1 x2 x3 x4 x5 x6 x7 x8 h,
    v118_apply x1 x2 x3 x4 x5 x6 x7 x8 h, v139_apply x1 x2 x3 x4 x5 x6 x7 x8 h]
  fin_cases i <;> rfl

/-- The normalised rows. -/
theorem v153_apply (i : Fin 3) (b : Fin 128) (l : Fin 200) (c : Fin 128) :
    val_main_v153 (F := Ideal) x1 x2 x3 x4 x5 x6 x7 x8 (ix4 i b l c)
      = Spec.unit (Spec.gram (demb x1 x2 b) (W x3 x4 x5) (B x6 x7 x8) i) l c := by
  pointwise [val_main_v153, val_main_v152, val_main_v151, val_main_v150, val_main_cst_32, val_main_v149, val_main_call13_v2,
    val_main_call13_v1, val_main_call13_v0, val_main_call13_cst, v143_apply x1 x2 x3 x4 x5 x6 x7 x8 h]
  rfl

end Document

end Cert.ReferenceIdeal.Rows

end
-- ==== Proof.RPair.lean ====
/- The reference's pooling read at an index, up to the dense layer. Hand-written. -/
module

public import proofs.«01_k».proof.Proof.RGram
public import proofs.«01_k».proof.Proof.Math

@[expose] public section

set_option maxRecDepth 16384

noncomputable section

namespace Cert.ReferenceIdeal.Rows

open Cert.ReferenceIdeal Cert.ReferenceIdeal.Gen Cert.ReferenceIdeal.Read Idealize.ShloMosaic Idealize.SL.Sem

/-- The bins' centres. -/
theorem v11_apply (k : Fin 11) : val_main_v11 (F := Ideal) (ix1 k) = Spec.mu k := by
  pointwise [val_main_v11, val_main_v10, val_main_v9, val_main_v8, val_main_v7, val_main_v6, val_main_v5, val_main_v4,
    val_main_v3, val_main_v2, val_main_v1, val_main_v0, val_main_cst, val_main_cst_0, val_main_cst_1, val_main_cst_2,
    val_main_cst_3, val_main_cst_4, val_main_cst_5, val_main_cst_6, val_main_cst_7, val_main_cst_8, val_main_cst_9]
  fin_cases k <;> first | exact Ideal.ofBits_one_f32.symm | rfl

theorem v18_apply (k : Fin 11) : val_main_v18 (F := Ideal) (ix1 k) = Spec.width k := by
  pointwise [val_main_v18, val_main_v17, val_main_v16, val_main_v15, val_main_v14, val_main_v13, val_main_v12, val_main_cst_10,
    val_main_cst_11, val_main_cst_12, val_main_cst_13]
  rfl

/-- A word's mask, as the reference converts it. -/
theorem mask_word (t : BitVec 32) : FloatOps.uitofp (F := Ideal) .f32 (IntOp.cmpi .sgt t 0#32) = Spec.mask t := by
  rw [Spec.mask]
  show (((IntOp.cmpi .sgt t 0#32).toNat : ℝ) : EReal) = _
  unfold IntOp.cmpi
  cases e : BitVec.slt 0#32 t <;> simp [e]

variable (x0 : IVec S128x30 32) (x1 : IVec S128x200 32) (x2 : Vec Ideal S50000x300 .f32) (x3 : Vec Ideal S128x300x1 .f32)
  (x4 : Vec Ideal S128x300x2 .f32) (x5 : Vec Ideal S128x300x3 .f32) (x6 x7 x8 : Vec Ideal S128 .f32) (x9 : Vec Ideal S1x99 .f32)

theorem v21_apply (b : Fin 128) (l : Fin 30) : val_main_v21 (F := Ideal) x0 (ix2 b l) = Spec.mask (x0 (ix2 b l)) := by
  pointwise [val_main_v21, val_main_v20, val_main_v19, val_main_c]
  exact mask_word _

theorem v24_apply (b : Fin 128) (l : Fin 200) : val_main_v24 (F := Ideal) x1 (ix2 b l) = Spec.mask (x1 (ix2 b l)) := by
  pointwise [val_main_v24, val_main_v23, val_main_v22, val_main_c_14]
  exact mask_word _

/-- The mask of a pair of places. -/
abbrev pairMask (b : Fin 128) (l : Fin 30) (k : Fin 200) : EReal := Spec.mask (x0 (ix2 b l)) * Spec.mask (x1 (ix2 b k))

theorem v29_apply (b : Fin 128) (l : Fin 30) (k : Fin 200) :
    val_main_v29 (F := Ideal) x0 x1 (ix3 b l k) = pairMask x0 x1 b l k := by
  pointwise [val_main_v29, val_main_v28, val_main_v27, val_main_v26, val_main_v25, v21_apply, v24_apply]

section Pair

variable (h : ∀ b l, (x0 (ix2 b l)).toNat < 50000) (h' : ∀ b l, (x1 (ix2 b l)).toNat < 50000)
include h h'

/-- The masked cosines of one pair of widths. -/
abbrev cosines (b : Fin 128) (i j : Fin 3) : Fin 30 → Fin 200 → EReal :=
  Spec.sim (Spec.unit (Spec.gram (qemb x0 x2 b) (W x3 x4 x5) (B x6 x7 x8) i))
    (Spec.unit (Spec.gram (demb x1 x2 b) (W x3 x4 x5) (B x6 x7 x8) j)) (pairMask x0 x1 b)

theorem v158_apply (b : Fin 128) (i j : Fin 3) (q : Fin 30) (d : Fin 200) :
    val_main_v158 (F := Ideal) x0 x1 x2 x3 x4 x5 x6 x7 x8 (ix5 b i j q d)
      = cosines x0 x1 x2 x3 x4 x5 x6 x7 x8 b i j q d := by
  pointwise [val_main_v158, val_main_v157, val_main_v156, val_main_v155, val_main_v154, v29_apply,
    v148_apply x0 x2 x3 x4 x5 x6 x7 x8 h, v153_apply x1 x2 x3 x4 x5 x6 x7 x8 h']
  exact congrArg (· * _) (Finset.sum_congr rfl fun c _ => mul_comm _ _)

theorem v172_apply (b : Fin 128) (i j : Fin 3) (q : Fin 30) (d : Fin 200) (k : Fin 11) :
    val_main_v172 (F := Ideal) x0 x1 x2 x3 x4 x5 x6 x7 x8 (ix6 b i j q d k)
      = Spec.gauss k (cosines x0 x1 x2 x3 x4 x5 x6 x7 x8 b i j q d - Spec.mu k) := by
  pointwise [val_main_v172, val_main_v171, val_main_v170, val_main_v169, val_main_v168, val_main_v167, val_main_v166,
    val_main_v165, val_main_v164, val_main_v163, val_main_v162, val_main_v161, val_main_v160, val_main_v159,
    val_main_cst_33, v158_apply x0 x1 x2 x3 x4 x5 x6 x7 x8 h h', v11_apply, v18_apply]
  exact Spec.gauss_eq k _

/-- One bin. -/
theorem v176_apply (b : Fin 128) (i j : Fin 3) (q : Fin 30) (k : Fin 11) :
    val_main_v176 (F := Ideal) x0 x1 x2 x3 x4 x5 x6 x7 x8 (ix5 b i j q k)
      = Spec.bin (cosines x0 x1 x2 x3 x4 x5 x6 x7 x8 b i j) (pairMask x0 x1 b) q k := by
  rw [val_main_v176_apply]
  refine (congrArg (· + _) Ideal.ofBits_zero_f32).trans ((zero_add _).trans (Finset.sum_congr rfl fun d _ => ?_))
  have e : idx_main_v176 (ix5 b i j q k) d = ix6 b i j q d k := by
    funext a
    fin_cases a <;> rfl
  rw [e]
  pointwise [val_main_v175, val_main_v174, val_main_v173, v29_apply, v172_apply x0 x1 x2 x3 x4 x5 x6 x7 x8 h h']

theorem v180_apply (b : Fin 128) (i j : Fin 3) (q : Fin 30) (k : Fin 11) :
    val_main_v180 (F := Ideal) x0 x1 x2 x3 x4 x5 x6 x7 x8 (ix5 b i j q k)
      = Spec.lg (cosines x0 x1 x2 x3 x4 x5 x6 x7 x8 b i j) (pairMask x0 x1 b) q k := by
  pointwise [val_main_v180, val_main_v179, val_main_v178, val_main_v177, val_main_cst_35,
    val_main_cst_36, val_main_call14_v1, val_main_call14_v0]
  rw [v176_apply x0 x1 x2 x3 x4 x5 x6 x7 x8 h h', max_comm]
  rfl

/-- One feature of the dense layer: a pair's logarithms of one bin, masked and summed over the query. -/
abbrev feature (b : Fin 128) (i j : Fin 3) (k : Fin 11) : EReal :=
  ∑ q, Spec.lg (cosines x0 x1 x2 x3 x4 x5 x6 x7 x8 b i j) (pairMask x0 x1 b) q k * Spec.mask (x0 (ix2 b q))

theorem v184_apply (b : Fin 128) (i j : Fin 3) (k : Fin 11) :
    val_main_v184 (F := Ideal) x0 x1 x2 x3 x4 x5 x6 x7 x8 (ix4 b i j k)
      = feature x0 x1 x2 x3 x4 x5 x6 x7 x8 b i j k := by
  pointwise [val_main_v184, val_main_v183, val_main_v182, val_main_v181, val_main_cst_37, v21_apply,
    v180_apply x0 x1 x2 x3 x4 x5 x6 x7 x8 h h']

theorem v188_apply (b : Fin 128) :
    val_main_v188 (F := Ideal) x0 x1 x2 x3 x4 x5 x6 x7 x8 x9 (ix1 b)
      = ∑ n : Fin 99, feature x0 x1 x2 x3 x4 x5 x6 x7 x8 b ⟨n.1 / 33, by omega⟩ ⟨n.1 / 11 % 3, by omega⟩ ⟨n.1 % 11, by omega⟩
          * x9 (ix2 0 n) := by
  pointwise [val_main_v188, val_main_v187, val_main_v186, val_main_v185, v184_apply x0 x1 x2 x3 x4 x5 x6 x7 x8 h h']

/-- The reference's result: the document's score. -/
theorem result_apply (hr : ∀ n, ∃ r : ℝ, x9 (ix2 0 n) = r) (b : Fin 128) :
    val_main_v188 (F := Ideal) x0 x1 x2 x3 x4 x5 x6 x7 x8 x9 (ix1 b)
      = Spec.result (fun a e => x2 (ix2 a e)) (W x3 x4 x5) (B x6 x7 x8) (Spec.dense fun n => x9 (ix2 0 n))
          (fun l => x0 (ix2 b l)) (fun l => x1 (ix2 b l)) := by
  rw [v188_apply x0 x1 x2 x3 x4 x5 x6 x7 x8 x9 h h']
  refine (Spec.dense_order (fun i j => Spec.lg (cosines x0 x1 x2 x3 x4 x5 x6 x7 x8 b i j) (pairMask x0 x1 b))
    (fun q => Spec.mask (x0 (ix2 b q))) (fun n => x9 (ix2 0 n)) (fun i j q k => Spec.lg_real _ _ (fun l d => ?_) q k)
    (fun q => Spec.mask_real _) hr).trans rfl
  obtain ⟨u, hu⟩ := Spec.mask_real (x0 (ix2 b l))
  obtain ⟨v, hv⟩ := Spec.mask_real (x1 (ix2 b d))
  exact ⟨u * v, by rw [pairMask, hu, hv, EReal.coe_mul]⟩

end Pair

end Cert.ReferenceIdeal.Rows

end
-- ==== Proof.Pre.lean ====
/- What the precondition says: tokens are rows of the table, and the dense weights are finite. Hand-written. -/
module

public import proofs.«01_k».proof.Proof.Gen.Pre_in_range
public import Idealize.ShloMosaic.Lib.ReduceAll
public import Idealize.ShloMosaic.Lib.Affine
public import Idealize.ShloMosaic.Lib.Pointwise

@[expose] public section

noncomputable section

namespace Cert.Pre_in_range

open Idealize.ShloMosaic Idealize.SL.Sem Cert.Pre_in_range.Gen

/-- A word that is at least zero and under the table's height, both signed. -/
theorem word_lt (x : BitVec 32) (e : IntOp.andi (IntOp.cmpi .sge x 0#32) (IntOp.cmpi .slt x 50000#32) = 1#1) : x.toNat < 50000 := by
  obtain ⟨e0, e1⟩ := IntOp.andi_eq_one.mp e
  rw [IntOp.cmpi_sge] at e0
  rw [IntOp.cmpi_slt] at e1
  have h0 : (0#32).toInt = 0 := by decide
  have h1 : (50000#32).toInt = 50000 := by decide
  rw [h0] at e0
  rw [h1] at e1
  rw [BitVec.toInt_eq_toNat_cond] at e0 e1
  split_ifs at e0 e1 <;> omega

/-- A number whose size is under infinity is real. -/
theorem size_real (x : EReal) (e : FloatOps.cmpf (F := Ideal) (φ := .f32)
      .olt (FloatOps.hostAbsf x) (Ideal.ofBits .f32 0x7F800000#32) = 1#1) :
    ∃ r : ℝ, x = r := by
  have top : Ideal.ofBits .f32 0x7F800000#32 = ⊤ := by simp [Ideal.ofBits, Ideal.ieee]
  have hlt : max x (-x) < ⊤ := by
    have e : BitVec.ofBool (decide (max x (-x) < Ideal.ofBits .f32 0x7F800000#32)) = 1#1 := e
    by_contra hc
    rw [top, decide_eq_false hc] at e
    exact absurd e (by decide)
  induction x using EReal.rec with
  | bot => simp at hlt
  | top => simp at hlt
  | coe r => exact ⟨r, rfl⟩

variable (x0 : IVec S128x30 32) (x1 : IVec S128x200 32) (x2 : Vec Ideal S50000x300 .f32) (x3 : Vec Ideal S128x300x1 .f32)
  (x4 : Vec Ideal S128x300x2 .f32) (x5 : Vec Ideal S128x300x3 .f32) (x6 x7 x8 : Vec Ideal S128 .f32) (x9 : Vec Ideal S1x99 .f32)

theorem holds (e : fn (F := Ideal) x0 x1 x2 x3 x4 x5 x6 x7 x8 x9 = fun _ => 1#1) :
    (∀ b l, (x0 (ix2 b l)).toNat < 50000) ∧ (∀ b l, (x1 (ix2 b l)).toNat < 50000) ∧ ∀ n, ∃ r : ℝ, x9 (ix2 0 n) = r := by
  have e := congrFun e ix0
  dsimp only [fn, fn_part1] at e
  obtain ⟨e, e9⟩ := IntOp.andi_eq_one.mp e
  obtain ⟨e0, e1⟩ := IntOp.andi_eq_one.mp e
  haveI : Subsingleton S_.Idx := ⟨fun a b => funext fun i => i.elim0⟩
  exact ⟨fun b l => word_lt _ (Host.reduce_andi_all _ _ _ _ _ e0 (ix2 b l)),
    fun b l => word_lt _ (Host.reduce_andi_all _ _ _ _ _ e1 (ix2 b l)),
    fun n => size_real _ (Host.reduce_andi_all _ _ _ _ _ e9 (ix2 0 n))⟩

end Cert.Pre_in_range

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.ReferenceIdeal.Run
public import proofs.«01_k».proof.Proof.Gen.ReferenceIdeal.Read
public import proofs.«01_k».proof.Proof.Spec
public import proofs.«01_k».proof.Proof.Body
public import proofs.«01_k».proof.Proof.KPair
public import proofs.«01_k».proof.Proof.KGram
public import proofs.«01_k».proof.Proof.KOut
public import proofs.«01_k».proof.Proof.KHost
public import proofs.«01_k».proof.Proof.KRows
public import proofs.«01_k».proof.Proof.KRun
public import proofs.«01_k».proof.Proof.Math
public import proofs.«01_k».proof.Proof.RRows
public import proofs.«01_k».proof.Proof.RGram
public import proofs.«01_k».proof.Proof.RPair
public import proofs.«01_k».proof.Proof.Pre
public import Idealize.ShloMosaic.Lib.Claim
public import Idealize.ShloMosaic.Adequacy
public import Idealize.ShloMosaic.Init

@[expose] public section

noncomputable section

namespace Cert.Proof

open Idealize.ShloMosaic Idealize.SL.Sem Idealize.ShloMosaic.StableHlo

/-- The reference runs, leaves its arguments and has no semaphores. -/
theorem reference_quiescent : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two constants that stand for their exact values. -/
theorem preserves : Cert.preserves_Kernel_KernelIdeal :=
  ⟨IdealRules.named_const.statement Cert.KernelIdeal.κ "c2_exact" .f32 0xC9301C38#32
      ((-((Real.log 2)⁻¹ * 500000) : ℝ) : EReal) rfl,
    IdealRules.named_const.statement Cert.KernelIdeal.κ "c2_soft" .f32 0xC29044FE#32
      ((-((Real.log 2)⁻¹ * 50) : ℝ) : EReal) rfl⟩

/-- Both end with every document's score. -/
theorem algebraic : Cert.algebraic_KernelIdeal_ReferenceIdeal_pre_in_range := by
  intro m g m' g' hpre hagree
  have hp := fun c => Cert.Pre_in_range.holds _ _ _ _ _ _ _ _ _ _ (hpre c)
  refine ⟨_, Cert.KernelIdeal.Host.run m g fun c => ⟨(hp c).1, (hp c).2.1⟩, ?_⟩
  refine (θ_run Cert.ReferenceIdeal.defs _ _).mono (fun _ h c => ⟨(h c).1.trans ?_, (h c).2⟩)
    (Cert.ReferenceIdeal.Value.run (F := Ideal) m' g')
  refine (Cert.ReferenceIdeal.Read.val_main_v188_eq (launchContents m' c)).trans ?_
  show Cert.ReferenceIdeal.Read.val_main_v188 (F := Ideal) (m' (c.tc.loc Cert.ReferenceIdeal.main_arg0))
      (m' (c.tc.loc Cert.ReferenceIdeal.main_arg1)) (m' (c.tc.loc Cert.ReferenceIdeal.main_arg2))
      (m' (c.tc.loc Cert.ReferenceIdeal.main_arg3)) (m' (c.tc.loc Cert.ReferenceIdeal.main_arg4))
      (m' (c.tc.loc Cert.ReferenceIdeal.main_arg5)) (m' (c.tc.loc Cert.ReferenceIdeal.main_arg6))
      (m' (c.tc.loc Cert.ReferenceIdeal.main_arg7)) (m' (c.tc.loc Cert.ReferenceIdeal.main_arg8))
      (m' (c.tc.loc Cert.ReferenceIdeal.main_arg9)) = _
  obtain ⟨a0, a1, a2, a3, a4, a5, a6, a7, a8, a9⟩ := hagree c
  rw [a0, a1, a2, a3, a4, a5, a6, a7, a8, a9]
  funext i
  obtain ⟨b, rfl⟩ : ∃ b, i = ix1 b := ⟨i 0, by funext x; fin_cases x; rfl⟩
  exact Cert.ReferenceIdeal.Rows.result_apply _ _ _ _ _ _ _ _ _ _ (hp c).1 (hp c).2.1 (hp c).2.2 b

theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ,
    fun m ρ _ => Cert.KernelIdeal.Gen.frame m ρ, reference_quiescent, fun m ρ _ => reference_quiescent m ρ trivial,
    preserves, algebraic⟩

end Cert.Proof

end
